-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2x2048 : Shape := ⟨3, ![1024, 2, 2048]⟩
abbrev S1x1 : Shape := ⟨2, ![1, 1]⟩
abbrev S1024x2048 : Shape := ⟨2, ![1024, 2048]⟩
abbrev S1024x1 : Shape := ⟨2, ![1024, 1]⟩
abbrev S4x256x2048 : Shape := ⟨3, ![4, 256, 2048]⟩
abbrev S4 : Shape := ⟨1, ![4]⟩
abbrev S1x2048 : Shape := ⟨2, ![1, 2048]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S256x1x2048 : Shape := ⟨3, ![256, 1, 2048]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩
abbrev S256 : Shape := ⟨1, ![256]⟩

abbrev nBuf : Space → Nat
  | .hbm => 4
  | .vmem => 5
  | .smem => 0
  | _ => 0

abbrev bufTy : (tb : Table) → Fin (tcTables nBuf tb) → BufTy
  | .hbm, ⟨0, _⟩ => ⟨S1024x2x2048, .f32⟩
  | .hbm, ⟨1, _⟩ => ⟨S1024x2x2048, .f32⟩
  | .hbm, ⟨2, _⟩ => ⟨S1x1, .f32⟩
  | .hbm, ⟨3, _⟩ => ⟨S_, .f32⟩
  | .local _ .vmem, ⟨0, _⟩ => ⟨S1x1, .f32⟩
  | .local _ .vmem, ⟨1, _⟩ => ⟨S1024x2048, .bf16⟩
  | .local _ .vmem, ⟨2, _⟩ => ⟨S1024x1, .f32⟩
  | .local _ .vmem, ⟨3, _⟩ => ⟨S4x256x2048, .f32⟩
  | .local _ .vmem, ⟨4, _⟩ => ⟨S4x256x2048, .f32⟩
  | _, _ => ⟨S1024x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0

abbrev nD : Nat := 1
abbrev τ : Topo := Topo.v7x

variable {F : FTy → Type} [FloatOps F]

abbrev grid0 : Pipeline.Grid := ⟨1, ![4], ![false]⟩

def k0_off1 (i : grid0.Coords) : Fin 1 → Nat :=
  let arg0 : BitVec 32 := BitVec.ofNat 32 (i 0).val
  ![arg0.toNat]
def k0_off2 (i : grid0.Coords) : Fin 3 → Nat :=
  let arg0 : BitVec 32 := BitVec.ofNat 32 (i 0).val
  let c0_i32_2 : BitVec 32 := 0#32
  let c0_i32_3 : BitVec 32 := 0#32
  ![arg0.toNat, 0, 0]
def k0_off3 (i : grid0.Coords) : Fin 3 → Nat :=
  let arg0 : BitVec 32 := BitVec.ofNat 32 (i 0).val
  let c256_i32 : BitVec 32 := 256#32
  let v4 : BitVec 32 := Scalar.muli arg0 c256_i32
  let c0_i32_1 : BitVec 32 := 0#32
  let c0_i32_4 : BitVec 32 := 0#32
  ![v4.toNat, 0, 0]
def k0_off4 (i : grid0.Coords) : Fin 3 → Nat :=
  let arg0 : BitVec 32 := BitVec.ofNat 32 (i 0).val
  let v11 : Index := Scalar.indexCast arg0
  let c0 : Index := 0#32
  let c0_5 : Index := 0#32
  ![v11.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S1024x2x2048 : Shape := ⟨3, ![1024, 2, 2048]⟩
abbrev S1024x1x2048 : Shape := ⟨3, ![1024, 1, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S1024x2x2048, .f32⟩
  | .hbm, ⟨1, _⟩ => ⟨S1024x2x2048, .f32⟩
  | .hbm, ⟨2, _⟩ => ⟨S1024x1x2048, .f32⟩
  | .hbm, ⟨3, _⟩ => ⟨S1024x2048, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x2048, .f32⟩
  | .hbm, ⟨13, _⟩ => ⟨S1024x2048, .f32⟩
  | .hbm, ⟨14, _⟩ => ⟨S1024x1x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024, .f32⟩
  | .hbm, ⟨29, _⟩ => ⟨S1024x2048, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S1024x1024, .f32⟩
  | .hbm, ⟨38, _⟩ => ⟨S1024x1, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1, .f32⟩
  | .hbm, ⟨48, _⟩ => ⟨S1x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .i32⟩
  | .hbm, ⟨61, _⟩ => ⟨S1024x1024, .i32⟩
  | .hbm, ⟨62, _⟩ => ⟨S_, .i32⟩
  | .hbm, ⟨63, _⟩ => ⟨S1024x1024, .i32⟩
  | .hbm, ⟨64, _⟩ => ⟨S1024x1024, .i32⟩
  | .hbm, ⟨65, _⟩ => ⟨S1024x1024, .i1⟩
  | .hbm, ⟨66, _⟩ => ⟨S_, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x1024, .i32⟩
  | .hbm, ⟨71, _⟩ => ⟨S_, .f32⟩
  | .hbm, ⟨72, _⟩ => ⟨S_, .i32⟩
  | .hbm, ⟨73, _⟩ => ⟨S1024, .f32⟩
  | .hbm, ⟨74, _⟩ => ⟨S1024, .i32⟩
  | .hbm, ⟨75, _⟩ => ⟨S_, .i32⟩
  | .hbm, ⟨76, _⟩ => ⟨S1024, .i32⟩
  | .hbm, ⟨77, _⟩ => ⟨S1024, .i1⟩
  | .hbm, ⟨78, _⟩ => ⟨S_, .i32⟩
  | .hbm, ⟨79, _⟩ => ⟨S1024, .i32⟩
  | .hbm, ⟨80, _⟩ => ⟨S1024, .i32⟩
  | .hbm, ⟨81, _⟩ => ⟨S1024, .i32⟩
  | .hbm, ⟨82, _⟩ => ⟨S1024x1, .i32⟩
  | .hbm, ⟨83, _⟩ => ⟨S1024x2048, .f32⟩
  | .hbm, ⟨84, _⟩ => ⟨S1024x2048, .f32⟩
  | .hbm, ⟨85, _⟩ => ⟨S_, .f32⟩
  | .hbm, ⟨86, _⟩ => ⟨S1024x2048, .f32⟩
  | .hbm, ⟨87, _⟩ => ⟨S1024x2048, .f32⟩
  | .hbm, ⟨88, _⟩ => ⟨S1024x2048, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024x2048, .f32⟩
  | .hbm, ⟨93, _⟩ => ⟨S_, .f32⟩
  | .hbm, ⟨94, _⟩ => ⟨S1024x2048, .f32⟩
  | .hbm, ⟨95, _⟩ => ⟨S1024x2048, .f32⟩
  | .hbm, ⟨96, _⟩ => ⟨S1024x2048, .f32⟩
  | .hbm, ⟨97, _⟩ => ⟨S_, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S1024, .f32⟩
  | .hbm, ⟨103, _⟩ => ⟨S_, .f32⟩
  | .hbm, ⟨104, _⟩ => ⟨S1024, .f32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S1024x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_call2_v0 : Ref sig .tc := ⟨.hbm, 67, rfl⟩
abbrev main_call2_v1 : Ref sig .tc := ⟨.hbm, 68, rfl⟩
abbrev main_v46 : Ref sig .tc := ⟨.hbm, 69, rfl⟩
abbrev main_call3_v0 : Ref sig .tc := ⟨.hbm, 70, rfl⟩
abbrev main_call3_cst : Ref sig .tc := ⟨.hbm, 71, rfl⟩
abbrev main_call3_c : Ref sig .tc := ⟨.hbm, 72, rfl⟩
abbrev main_call3_v1_0 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_call5_v0 : Ref sig .tc := ⟨.hbm, 96, rfl⟩
abbrev main_call5_cst : Ref sig .tc := ⟨.hbm, 97, rfl⟩
abbrev main_call5_v1 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_call6_cst : Ref sig .tc := ⟨.hbm, 106, rfl⟩
abbrev main_call6_v0 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩

abbrev nD : Nat := 1
abbrev τ : Topo := Topo.v7x

variable {F : FTy → Type} [FloatOps F]
-- ==== Proof.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Ring.AtN
public import Idealize.ShloMosaic.Lib.Tactic
public import Idealize.ShloMosaic.Lib.WordCmp

/-! What the runs of the idealized kernel's body at its grid points share: the host lines around the region, the body's one branch condition,
the memrefs it is called with, and the ring of four slots through which the anchors' blocks are streamed. -/

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s buffers when the region is entered; no host operation comes before it. -/
abbrev V0 (c : Dev nD) : Valuation τ sig (Elt F) := StableHlo.after (List.flatten []) (fun b => m (c, b))

/-- One of these buffers, by its reference. -/
abbrev V (c : Dev nD) (b : Ref sig .tc) : Buf (Elt F) ((c : Thread nD τ).loc b) := V0 m c (Proc.devRef .tc b)

/-- The host line after the region allocates nothing. -/
theorem hostOps1_fresh : (hostOps1 : List (HloOp τ sig (Elt F))).Forall fun op => op.fresh = ∅ := by
  simp only [List.Forall]; repeat' constructor

set_option maxHeartbeats 800000 in
/-- The program is the region followed by the host line after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region, a list of one, allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- They write no array of the pipeline, but only a result of their own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The region finds the first argument as launched. -/
theorem V_main_arg0 (c : Dev nD) : V m c main_arg0 = m ((c : Thread nD τ).loc main_arg0) := rfl

/-- The region finds the second argument as launched. -/
theorem V_main_arg1 (c : Dev nD) : V m c main_arg1 = m ((c : Thread nD τ).loc main_arg1) := rfl

/-- A buffer that is no array of the pipeline and not the host line's result ends as the region found it. -/
theorem tail_keeps (dats : (p : Fin _) → (c : Dev nD) → Dat τ (Elt F) Unit ℕ (Pipeline.UD sig nD τ) ℕ (cfgs p) c) (c : Dev nD) (b : Ref sig .tc)
    (hw : ∀ w, Pipeline.arrRef spec0 w ≠ b) (hb : b ≠ main_v1) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne hb)),
    Pipeline.withArrays_of_ne _ c (V0 m c) _ b hw]

/-- The first argument ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) :=
  (tail_keeps m dats c main_arg0 (by decide) (by decide)).trans (V_main_arg0 m c)

/-- The second argument ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) :=
  (tail_keeps m dats c main_arg1 (by decide) (by decide)).trans (V_main_arg1 m c)

/-! ## The body's branch condition -/

/-- The body's condition for its first part, from the grid coordinates. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The memrefs that the body is called with -/

/-- The output's staging memref at point `t`. -/
abbrev ms0_0 (t : Fin cfg0.N) : Memref sig .tc .vmem S1x1 .f32 := win0_0.stage (cfg0.slots t 0)

/-- It is whole. -/
abbrev hs0_0 (t : Fin cfg0.N) : (ms0_0 t).IsWhole := hstage0_0 ((cfg0.slots t 0).cast nbuf0_0)

/-- The scratch of positives' rows. -/
abbrev scM0_0 : Memref sig .tc .vmem S1024x2048 .bf16 := Memref.whole cc0_scratch0

/-- The scratch of positives' own terms. -/
abbrev scM0_1 : Memref sig .tc .vmem S1024x1 .f32 := Memref.whole cc0_scratch1

/-- The four slots of the anchors' ring. -/
abbrev scM0_2 : Memref sig .tc .vmem S4x256x2048 .f32 := Memref.whole cc0_scratch2

/-- The four slots in which the positives land at the first point. -/
abbrev scM0_3 : Memref sig .tc .vmem S4x256x2048 .f32 := Memref.whole cc0_scratch3

/-- The first argument, whole in HBM. -/
abbrev hbM0_0 : Memref sig .tc .hbm S1024x2x2048 .f32 := Memref.whole main_arg0

/-- The second argument, whole in HBM. -/
abbrev hbM0_1 : Memref sig .tc .hbm S1024x2x2048 .f32 := Memref.whole main_arg1

/-- The contents of memref `M`'s buffer on core `c`. -/
abbrev HbBuf0 (c : Dev nD) {sp : Space} {S : Shape} {e : EltTy} (M : Memref sig .tc sp S e) : Type := Buf (Elt F) (M.view.loc (c : Thread nD τ))

/-- That buffer held whole at the contents `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores: four for the anchors' ring, four for the positives. -/
abbrev osem0 : Fin 8 → SemLoc sig := fun j => (![SemLoc.dma 1, SemLoc.dma 2, SemLoc.dma 3, SemLoc.dma 4, SemLoc.dma 5, SemLoc.dma 6, SemLoc.dma 7, SemLoc.dma 8] : Fin 8 → SemLoc sig) j

/-- None of them is a window's. -/
theorem ownSemFacts0 : Pipeline.OwnSemFacts spec0 osem0 := by decide

/-- All of them at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3, 4, 5, 6, 7] (by decide) (by decide)]; rfl

/-- The arguments, which the body copies from by itself. -/
def H0 : Finset (Ref sig .tc) := {main_arg0, main_arg1}

/-- No window stages them. -/
theorem H0_sub : H0 ⊆ Pipeline.restRefs sig spec0 := by decide

/-- The lines after the region touch neither of them. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- The two arguments held at their launch contents. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1)) := by
  rw [BI.bigSep_eq_bigSepL_of_eq [main_arg0, main_arg1] (by decide) (by decide)]; rfl

/-- What the launch hands the region besides the windows, one by one: the scratches, the generator's register, the semaphores at zero,
the arguments. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_arg0) ∗ hbPt0 c hbM0_1 (V m c main_arg1))) := by
  rw [Pipeline.ΦD_eq, scopedRest0_eq, ownSems00_eq, hbmPts0_eq]; simp only [scM0_0, scM0_1, scM0_2, scM0_3, owns_whole]; try rfl

/-! ## The ring: the anchors' four blocks through four slots, three blocks ahead -/

/-- There is a grid point. -/
instance : NeZero grid0.N := ⟨by rw [N_0]; decide⟩

/-- A slot lies in its scratch. -/
theorem inb_slot0_0 (s : Fin 4) : ∀ a, (![s.val, 0, 0] : Fin 3 → Nat) a + S1x256x2048.size a ≤ S4x256x2048.size a := by
  have := s.isLt; intro a; fin_cases a <;> simp <;> omega

/-- A block lies in its argument. -/
theorem inb_src0_0 (b : Fin 4) : ∀ a, (![256 * b.val, 0, 0] : Fin 3 → Nat) a + S256x1x2048.size a ≤ S1024x2x2048.size a := by
  have := b.isLt; intro a; fin_cases a <;> simp <;> omega

/-- A semaphore lies in its array. -/
theorem inb_cell0_0 (s : Fin 4) : ∀ a, (![s.val] : Fin 1 → Nat) a + S1.size a ≤ S4.size a := by
  have := s.isLt; intro a; fin_cases a <;> simp <;> omega

/-- Slot `s` of the ring. -/
def rslot0_0 (s : Fin 4) : Memref sig .tc .vmem S256x2048 .f32 :=
  (scM0_2.slice (Rect.unit (s := S4x256x2048) ![s.val, 0, 0] S1x256x2048.size (inb_slot0_0 s)) (fun _ => rfl)).squeeze S256x2048 squeezes_S1x256x2048_S256x2048

/-- Block `b` of the anchors. -/
def srcB0_0 (b : Fin 4) : Memref sig .tc .hbm S256x2048 .f32 :=
  (hbM0_0.slice (Rect.unit (s := S1024x2x2048) ![256 * b.val, 0, 0] S256x1x2048.size (inb_src0_0 b)) (fun _ => rfl)).squeeze S256x2048 squeezes_S256x1x2048_S256x2048

/-- The semaphore of slot `s`, -/
def cellA0_0 (s : Fin 4) : DmaSems sig S_ := (cc0_scratch4.slice (Rect.unit (s := S4) ![s.val] S1.size (inb_cell0_0 s))).squeeze S_ squeezes_S1_S_

/-- and its place among the body's own. -/
abbrev cellR0_0 (s : Fin 4) : SemLoc sig := SemLoc.dma (cellA0_0 s).sem

/-- Slot 0's place. -/
theorem cellR0_0_0 : cellR0_0 0 = SemLoc.dma 1 := by decide

/-- Slot 1's place. -/
theorem cellR0_0_1 : cellR0_0 1 = SemLoc.dma 2 := by decide

/-- Slot 2's place. -/
theorem cellR0_0_2 : cellR0_0 2 = SemLoc.dma 3 := by decide

/-- Slot 3's place. -/
theorem cellR0_0_3 : cellR0_0 3 = SemLoc.dma 4 := by decide

section Ring0_0
variable (c : Dev nD) (W : HbBuf0 (F := F) c hbM0_0)

/-- Slot `s`'s share of the anchors' argument: one of four parts of the full share, so that each transfer borrows from its own slot's. -/
abbrev qs0_0 (s : Fin 4) : PosShare TreeShare := if s.val = 0 then fullShare.left else if s.val = 1 then fullShare.right.left else if s.val = 2 then fullShare.right.right.left else fullShare.right.right.right

/-- Slot `s` held at the contents `f`. -/
abbrev slotP0_0 (s : Fin 4) (f : HbBuf0 (F := F) c (rslot0_0 s)) : sProp 𝕄 := (rslot0_0 s).view.loc (c : Thread nD τ) ↦[(rslot0_0 s).view.set]{fullShare} f

/-- Slot `s`'s semaphore at zero. -/
abbrev cellP0_0 (s : Fin 4) : sProp 𝕄 := semVal ((c : Thread nD τ), cellR0_0 s) 0

/-- Block `b` of the anchors, held at slot `s`'s share. -/
abbrev srcP0_0 (s : Fin 4) (b : Fin 4) : sProp 𝕄 := (srcB0_0 b).view.loc (c : Thread nD τ) ↦[(srcB0_0 b).view.set]{qs0_0 s} W

/-- The anchors outside block `b`, held at slot `s`'s share. -/
def restP0_0 (s : Fin 4) (b : Fin 4) : sProp 𝕄 := ((c : Thread nD τ).loc main_arg0) ↦[Finset.univ \ (srcB0_0 b).view.set]{qs0_0 s} W

/-- All the anchors, held at slot `s`'s share. -/
abbrev wholeP0_0 (s : Fin 4) : sProp 𝕄 := ((c : Thread nD τ).loc main_arg0) ↦[Finset.univ]{qs0_0 s} W

/-- Slot `s`'s contents once block `b` has landed in it. -/
abbrev landed0_0 (s : Fin 4) (b : Fin 4) (f : HbBuf0 (F := F) c (rslot0_0 s)) : HbBuf0 (F := F) c (rslot0_0 s) :=
  (rslot0_0 s).view.writes (Elt F) f [⟨Rect.whole S256x2048, ReadAs.same.apply ((srcB0_0 b).view.read (Elt F) W)⟩]

/-- Block `b` on its way into slot `s`: it delivers the slot with the block in it, and the block's own elements back. -/
abbrev flightP0_0 (s : Fin 4) (b : Fin 4) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)

/-- A slot at rest, with its whole share of the anchors. -/
abbrev slotW0_0 (s : Fin 4) (f : HbBuf0 (F := F) c (rslot0_0 s)) : sProp 𝕄 := iprop(slotP0_0 c s f ∗ wholeP0_0 c W s)

/-- A flight, with what remains of its slot's share. -/
abbrev flightW0_0 (s : Fin 4) (b : Fin 4) (f : HbBuf0 (F := F) c (rslot0_0 s)) : sProp 𝕄 := iprop(flightP0_0 c W s b f ∗ restP0_0 c W s b)

/-- No block is kept apart. -/
abbrev noHome0_0 (b : Fin 4) : sProp 𝕄 := iprop(emp)

/-- The ring before point `k`: every slot at rest before the first; afterwards blocks `k` to `k + 2`, as far as there are such, on their
way and the fourth slot at rest. -/
def ringAt0_0 (k : ℕ) : sProp 𝕄 :=
  if k = 0 then Ring.At₀ (cellP0_0 c) (slotW0_0 c W) noHome0_0
  else Ring.At 3 (cellP0_0 c) (slotW0_0 c W) noHome0_0 (flightW0_0 c W) k
omit [FloatOps F] in
/-- Slot 0's semaphore at zero, by its place. -/
theorem cellP0_0_0 : cellP0_0 (F := F) c 0 = semVal ((c : Thread nD τ), SemLoc.dma 1) 0 := congrArg (fun x => (semVal ((c : Thread nD τ), x) 0 : sProp 𝕄)) cellR0_0_0
omit [FloatOps F] in
/-- Slot 1's semaphore at zero, by its place. -/
theorem cellP0_0_1 : cellP0_0 (F := F) c 1 = semVal ((c : Thread nD τ), SemLoc.dma 2) 0 := congrArg (fun x => (semVal ((c : Thread nD τ), x) 0 : sProp 𝕄)) cellR0_0_1
omit [FloatOps F] in
/-- Slot 2's semaphore at zero, by its place. -/
theorem cellP0_0_2 : cellP0_0 (F := F) c 2 = semVal ((c : Thread nD τ), SemLoc.dma 3) 0 := congrArg (fun x => (semVal ((c : Thread nD τ), x) 0 : sProp 𝕄)) cellR0_0_2
omit [FloatOps F] in
/-- Slot 3's semaphore at zero, by its place. -/
theorem cellP0_0_3 : cellP0_0 (F := F) c 3 = semVal ((c : Thread nD τ), SemLoc.dma 4) 0 := congrArg (fun x => (semVal ((c : Thread nD τ), x) 0 : sProp 𝕄)) cellR0_0_3
end Ring0_0

/-! ### The slots, disjoint and covering the scratch -/

/-- The scratch's elements in slot `s`. -/
abbrev slotSet0_0 (s : Fin 4) : Finset S4x256x2048.Idx := (Rect.unit (s := S4x256x2048) ![s.val, 0, 0] S1x256x2048.size (inb_slot0_0 s)).set

/-- They are the slot's memref's. -/
theorem slotSet0_0_eq (s : Fin 4) : (rslot0_0 s).view.set = slotSet0_0 s := by
  simp only [rslot0_0, Memref.view_squeeze, View.set_reshape]; exact View.set_slice_whole _ _

/-- Two slots share no element. -/
theorem slots0_0_disjoint (s s' : Fin 4) (h : s ≠ s') : Disjoint (slotSet0_0 s) (slotSet0_0 s') :=
  Ring.lead_disjoint (s := S4x256x2048) (0 : Fin 3) 1 (fun s : Fin 4 => (![s.val, 0, 0] : Fin 3 → Nat)) S1x256x2048.size inb_slot0_0 (fun s => by simp) rfl s s' h

/-- The four slots are the scratch. -/
theorem slots0_0_cover : Finset.univ.biUnion slotSet0_0 = Finset.univ :=
  Ring.lead_cover (s := S4x256x2048) (0 : Fin 3) 1 (fun s : Fin 4 => (![s.val, 0, 0] : Fin 3 → Nat)) S1x256x2048.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)

/-- A slot held, as a part of the scratch. -/
theorem slotP0_0_eq (s : Fin 4) (f) : slotP0_0 (F := F) c s f = (((c : Thread nD τ).loc cc0_scratch2) ↦[slotSet0_0 s]{fullShare} f : sProp 𝕄) := by
  unfold slotP0_0; rw [slotSet0_0_eq]; rfl

/-- A slot's share of all the anchors is its share of one block and of the rest. -/
theorem src0_0_split (s : Fin 4) (b : Fin 4) : wholeP0_0 (F := F) c W s ⊣⊢ iprop(srcP0_0 c W s b ∗ restP0_0 c W s b) := by
  unfold restP0_0; exact pointsTo_split_subset (Finset.subset_univ _)

/-- The anchors at the full share are the four slots' shares together. -/
theorem whole0_0_split : (hbPt0 c hbM0_0 W : sProp 𝕄) ⊣⊢ iprop(wholeP0_0 c W 0 ∗ wholeP0_0 c W 1 ∗ wholeP0_0 c W 2 ∗ wholeP0_0 c W 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3
set_option maxHeartbeats 1000000 in
/-- The scratch at any contents is its four slots, each at some contents. -/
theorem slots0_0_in : iprop(∃ d, owns (c : Thread nD τ) scM0_2 fullShare d) ⊢ (iprop((∃ f, slotP0_0 (F := F) c 0 f) ∗ (∃ f, slotP0_0 (F := F) c 1 f) ∗ (∃ f, slotP0_0 (F := F) c 2 f) ∗ ∃ f, slotP0_0 (F := F) c 3 f) : sProp 𝕄) := by
  simp only [scM0_2, owns_whole]
  exact Ring.slots4_split (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0 c 3) (slotP0_0_eq c 0) (slotP0_0_eq c 1) (slotP0_0_eq c 2) (slotP0_0_eq c 3)
set_option maxHeartbeats 1000000 in
/-- The four slots, each at some contents, are the scratch at some contents. -/
theorem slots0_0_out : (iprop((∃ f, slotP0_0 (F := F) c 0 f) ∗ (∃ f, slotP0_0 (F := F) c 1 f) ∗ (∃ f, slotP0_0 (F := F) c 2 f) ∗ ∃ f, slotP0_0 (F := F) c 3 f) : sProp 𝕄) ⊢ iprop(∃ d, owns (c : Thread nD τ) scM0_2 fullShare d) := by
  simp only [scM0_2, owns_whole]
  exact Ring.slots4_join (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0 c 3) (slotP0_0_eq c 0) (slotP0_0_eq c 1) (slotP0_0_eq c 2) (slotP0_0_eq c 3)
end InOut0_0

/-- What the launch hands over is the ring before the first point. -/
theorem ring0_0_in (c : Dev nD) :
    iprop((∃ d, owns (c : Thread nD τ) scM0_2 fullShare d) ∗ (semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0) ∗ hbPt0 c hbM0_0 (V m c main_arg0))
      ⊢ ringAt0_0 c (V m c main_arg0) 0 := by
  unfold ringAt0_0; rw [if_pos rfl]; unfold Ring.At₀
  rw [Ring.bigSep_fin4 (Ring.free (cellP0_0 c) (slotW0_0 c (V m c main_arg0)))]
  simp only [Ring.free, cellP0_0_0, cellP0_0_1, cellP0_0_2, cellP0_0_3]
  iintro ⟨HS, Hc, HW⟩
  iapply Ring.with_homes₀
  icases Hc with ⟨H0, H1, H2, H3⟩
  ihave HS' := (slots0_0_in (F := F) c) $$ HS
  icases HS' with ⟨⟨%d0, HS0⟩, ⟨%d1, HS1⟩, ⟨%d2, HS2⟩, ⟨%d3, HS3⟩⟩
  ihave HW' := (whole0_0_split (F := F) c (V m c main_arg0)).1 $$ HW
  icases HW' with ⟨HW0, HW1, HW2, HW3⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2 HS2 HW2]
  · isplitl [H2]; · iexact H2
    iexists d2; isplitl [HS2]; · iexact HS2
    iexact HW2
  · isplitl [H3]; · iexact H3
    iexists d3; isplitl [HS3]; · iexact HS3
    iexact HW3

/-- The ring after the last point is what the launch takes back. -/
theorem ring0_0_out (c : Dev nD) :
    ringAt0_0 c (V m c main_arg0) 4
      ⊢ iprop((∃ d, owns (c : Thread nD τ) scM0_2 fullShare d) ∗ (semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0) ∗ hbPt0 c hbM0_0 (V m c main_arg0)) := by
  unfold ringAt0_0; rw [if_neg (by decide)]
  iintro H
  ihave H' := (Ring.free4_of_At_last _ _ _ _) $$ H
  simp only [Ring.free, cellP0_0_0, cellP0_0_1, cellP0_0_2, cellP0_0_3]
  icases H' with ⟨-, ⟨H0, ⟨%f0, HS0, HW0⟩⟩, ⟨H1, ⟨%f1, HS1, HW1⟩⟩, ⟨H2, ⟨%f2, HS2, HW2⟩⟩, ⟨H3, ⟨%f3, HS3, HW3⟩⟩⟩
  isplitl [HS0 HS1 HS2 HS3]
  · iapply (slots0_0_out (F := F) c); isplitl [HS0]; · iexists f0; iexact HS0
    isplitl [HS1]; · iexists f1; iexact HS1
    isplitl [HS2]; · iexists f2; iexact HS2
    iexists f3; iexact HS3
  isplitl [H0 H1 H2 H3]
  · isplitl [H0]; · iexact H0
    isplitl [H1]; · iexact H1
    isplitl [H2]; · iexact H2
    iexact H3
  · iapply (whole0_0_split (F := F) c (V m c main_arg0)).2; isplitl [HW0]; · iexact HW0
    isplitl [HW1]; · iexact HW1
    isplitl [HW2]; · iexact HW2
    iexact HW3

/-! ### The body's slots, blocks and semaphores are the ring's -/

section Names
omit [FloatOps F]

/-- Where the condition holds, the point is the first. -/
theorem rstep0_0_A : ∀ t : Fin grid0.N, cond0_0 (grid0.coords t) → t.val = 0 ∧ (t.val + 1) = 1 := by decide +kernel

/-- Where it does not hold, the ring's lead reaches past the last block. -/
theorem rstep0_0_B : ∀ t : Fin grid0.N, ¬cond0_0 (grid0.coords t) → 1 ≤ t.val ∧ 4 ≤ t.val + 3 ∧ t.val < 4 ∧ (t.val + 1) = t.val + 1 := by decide +kernel

/-- A slice of the scratch at slot `s`'s offsets is slot `s`. -/
theorem slot_name (s : Fin 4) (off : Fin 3 → ℕ) (h : off = ![s.val, 0, 0]) (inb : ∀ a, off a + S1x256x2048.size a ≤ S4x256x2048.size a) :
    (scM0_2.slice (Rect.unit (s := S4x256x2048) off S1x256x2048.size inb) (fun _ => rfl)).squeeze S256x2048 squeezes_S1x256x2048_S256x2048
      = rslot0_0 s := by
  subst h; rfl

/-- A slice of the anchors at block `b`'s offsets is block `b`. -/
theorem block_name (b : Fin 4) (off : Fin 3 → ℕ) (h : off = ![256 * b.val, 0, 0])
    (inb : ∀ a, off a + S256x1x2048.size a ≤ S1024x2x2048.size a) :
    (hbM0_0.slice (Rect.unit (s := S1024x2x2048) off S256x1x2048.size inb) (fun _ => rfl)).squeeze S256x2048 squeezes_S256x1x2048_S256x2048
      = srcB0_0 b := by
  subst h; rfl

/-- The semaphore at slot `s`'s offset is slot `s`'s. -/
theorem cell_name (s : Fin 4) (off : Fin 1 → ℕ) (h : off = ![s.val]) (inb : ∀ a, off a + S1.size a ≤ S4.size a) :
    (cc0_scratch4.slice (Rect.unit (s := S4) off S1.size inb)).squeeze S_ squeezes_S1_S_ = cellA0_0 s := by
  subst h; rfl

/-- The offsets of the point's own slot, where the body waits for it. -/
theorem wait_off : ∀ t : Fin grid0.N, k0_off2 (grid0.coords t) = ![(Ring.sl 4 t.val).val, 0, 0] := by decide +kernel

/-- The offset of its semaphore. -/
theorem cell_off : ∀ t : Fin grid0.N, k0_off1 (grid0.coords t) = ![(Ring.sl 4 t.val).val] := by decide +kernel

/-- The offsets of the slot where the body reads it. -/
theorem load_off : ∀ t : Fin grid0.N, k0_off4 (grid0.coords t) = ![(Ring.sl 4 t.val).val, 0, 0] := by decide +kernel

/-- The slot that the body waits for is the ring's. -/
@[sl_canon] theorem wait_name (t : Fin grid0.N) :
    (scM0_2.slice (Rect.unit (s := S4x256x2048) (k0_off2 (grid0.coords t)) S1x256x2048.size (k0_off2_inb (grid0.coords t))) (fun _ => rfl)).squeeze S256x2048 squeezes_S1x256x2048_S256x2048
      = rslot0_0 (Ring.sl 4 t.val) :=
  slot_name _ _ (wait_off t) _

/-- The semaphore that it waits on is that slot's. -/
@[sl_canon] theorem wait_cell_name (t : Fin grid0.N) :
    (cc0_scratch4.slice (Rect.unit (s := S4) (k0_off1 (grid0.coords t)) S1.size (k0_off1_inb (grid0.coords t)))).squeeze S_ squeezes_S1_S_
      = cellA0_0 (Ring.sl 4 t.val) :=
  cell_name _ _ (cell_off t) _

/-- The box that it reads lies in that slot. -/
instance (priority := high) load_closed (t : Fin grid0.N) : ClosedOff (k0_off4 (grid0.coords t)) := ⟨![(Ring.sl 4 t.val).val, 0, 0], load_off t⟩
end Names

end Cert.KernelIdeal.Hand

end
-- ==== Proof.Slots.lean ====
module

public import proofs.«01_k».proof.Proof.Runs
public import Idealize.ShloMosaic.Lib.Pointwise
public import Idealize.ShloMosaic.Lib.ValueIdx
public import Idealize.ShloMosaic.Lib.VecWindow

/-! What a load of one slot of a staging buffer reads after a copy has landed there: the block of the source array. -/

@[expose] public section

set_option maxRecDepth 16384

noncomputable section

namespace Cert.KernelIdeal.Hand

open Cert.KernelIdeal.Gen
open Idealize.ShloMosaic Idealize.ShloMosaic.TcCoe

section General

variable {sg : RefSig} {κ : Kind} {sp : Space} {s s' : Shape} {e : EltTy} {Val : EltTy → Type}

/-- A rectangle read after it was written whole through a reshape of itself: the payload, re-indexed. -/
theorem read_slice_reshape_write (v : View sg κ sp s e) (r : Rect s) (hn : s'.numel = r.shape.numel)
    (f : v.ty.Contents Val) (w : s'.Idx → Val e) :
    (v.slice r).read Val (((v.slice r).reshape s' hn).write Val f w Finset.univ)
      = fun x => w (Shape.reshapeEquiv hn.symm x) := by
  funext x
  have hx : (v.slice r).emb x = ((v.slice r).reshape s' hn).emb (Shape.reshapeEquiv hn.symm x) := by
    rw [View.emb_reshape]; simp [Shape.reshapeEquiv_reshapeEquiv]
  rw [View.read_apply, hx, View.write_emb_of_mem _ _ (Finset.mem_univ _)]
  simp

/-- A rectangle read after another, disjoint from it, was written through a reshape of that other one: unchanged. -/
theorem read_slice_reshape_write_of_disjoint (v : View sg κ sp s e) (r r' : Rect s) (hn : s'.numel = r'.shape.numel)
    (f : v.ty.Contents Val) (w : s'.Idx → Val e) (h : Disjoint r.set r'.set) :
    (v.slice r).read Val (((v.slice r').reshape s' hn).write Val f w Finset.univ) = (v.slice r).read Val f := by
  refine View.read_congr fun i hi => View.write_of_not_mem _ _ _ fun hm => ?_
  have hm' : i ∈ (v.slice r').set := (View.set_reshape (v := v.slice r') hn) ▸ hm
  obtain ⟨a, ha, rfl⟩ := Finset.mem_map.mp (View.set_slice v r ▸ hi)
  obtain ⟨b, hb, hab⟩ := Finset.mem_map.mp (View.set_slice v r' ▸ hm')
  exact Finset.disjoint_left.mp h ha (v.emb.injective hab ▸ hb)

/-- A load of a slot that a copy has just filled whole reads the copy. -/
theorem load_slot_same (v : View sg κ sp S4x256x2048 e) {off off' : Fin 3 → ℕ} (ho : off = off')
    (inb : ∀ a, off a + S1x256x2048.size a ≤ S4x256x2048.size a) (inb' : ∀ a, off' a + S1x256x2048.size a ≤ S4x256x2048.size a)
    (hn : S256x2048.numel = S1x256x2048.numel) (f : v.ty.Contents Val) (w : S256x2048.Idx → Val e) :
    v.readAt Val (Rect.unit (s := S4x256x2048) off S1x256x2048.size inb).toLoadRect
        (((v.slice (Rect.unit (s := S4x256x2048) off' S1x256x2048.size inb')).reshape S256x2048 hn).write Val f w Finset.univ)
      = fun x => w (Shape.reshapeEquiv hn.symm x) := by
  subst ho
  exact read_slice_reshape_write v (Rect.unit (s := S4x256x2048) off S1x256x2048.size inb) hn f w

/-- A load of one slot does not see a copy into another. -/
theorem load_slot_other (v : View sg κ sp S4x256x2048 e) {off off' : Fin 3 → ℕ}
    (ho : off 0 + 1 ≤ off' 0 ∨ off' 0 + 1 ≤ off 0)
    (inb : ∀ a, off a + S1x256x2048.size a ≤ S4x256x2048.size a) (inb' : ∀ a, off' a + S1x256x2048.size a ≤ S4x256x2048.size a)
    (hn : S256x2048.numel = S1x256x2048.numel) (f : v.ty.Contents Val) (w : S256x2048.Idx → Val e) :
    v.readAt Val (Rect.unit (s := S4x256x2048) off S1x256x2048.size inb).toLoadRect
        (((v.slice (Rect.unit (s := S4x256x2048) off' S1x256x2048.size inb')).reshape S256x2048 hn).write Val f w Finset.univ)
      = v.readAt Val (Rect.unit (s := S4x256x2048) off S1x256x2048.size inb).toLoadRect f :=
  read_slice_reshape_write_of_disjoint v (Rect.unit (s := S4x256x2048) off S1x256x2048.size inb)
    (Rect.unit (s := S4x256x2048) off' S1x256x2048.size inb') hn f w (Rect.unit_disjoint (0 : Fin 3) ho)

end General

variable {F : FTy → Type}

/-- Block `k` (256 rows) of half `h` of an array `X` of 1024 × 2 × 2048 entries, as a load of a staging slot reads it. -/
def slot (X : S1024x2x2048.Idx → Elt F .f32) (h : Fin 2) (k : Fin 4) : Vec F S1x256x2048 .f32 := fun x =>
  X (ix3 (⟨256 * k.val + (x 1).val, by have h1 : (x (1 : Fin 3)).val < 256 := (x 1).isLt; have := k.isLt; omega⟩ : Fin 1024) h (x 2))

/-- Reading the array's block through the slice that the copies take, then placing it in a slot, is `slot`. -/
theorem slot_of_block (X : S1024x2x2048.Idx → Elt F .f32) (h : Fin 2) (k : Fin 4) (off : Fin 3 → ℕ)
    (inb : ∀ a, off a + S256x1x2048.size a ≤ S1024x2x2048.size a) (ho : off = ![256 * k.val, h.val, 0])
    (h₁ : S256x2048.numel = S256x1x2048.numel) (h₂ : S1x256x2048.numel = S256x2048.numel) (x : S1x256x2048.Idx) :
    X ((Rect.unit (s := S1024x2x2048) off S256x1x2048.size inb).emb (Shape.reshapeEquiv h₁ (Shape.reshapeEquiv h₂ x)))
      = slot X h k x := by
  subst ho
  rw [Shape.reshapeEquiv_reshapeEquiv]
  have hx : Shape.reshapeEquiv (h₂.trans h₁) x = ix3 (n0 := 256) (n1 := 1) (n2 := 2048) (x 1) 0 (x 2) := by
    refine Shape.reshapeEquiv_eq_of_rowMajor _ ?_
    refine (rowMajor_val3 (d := ![256, 1, 2048]) _ 2048 2048 rfl rfl).trans
      (Eq.trans ?_ (rowMajor_val3 (d := ![1, 256, 2048]) _ 524288 2048 rfl rfl).symm)
    have h0 : (x (0 : Fin 3)).val < 1 := (x 0).isLt
    show (x 1).val * 2048 + 0 * 2048 + (x 2).val = (x (0 : Fin 3)).val * 524288 + (x 1).val * 2048 + (x 2).val
    omega
  rw [hx]
  refine congrArg X (funext fun a => ?_)
  match a with
  | ⟨0, _⟩ => exact Fin.ext (show 256 * k.val + 1 * (x 1).val = 256 * k.val + (x 1).val by omega)
  | ⟨1, _⟩ => exact Fin.ext (show h.val + 1 * 0 = h.val by omega)
  | ⟨2, _⟩ => exact Fin.ext (show 0 + 1 * (x 2).val = (x 2).val by omega)

end Cert.KernelIdeal.Hand

end
-- ==== Proof.Contents.lean ====
module

public import proofs.«01_k».proof.Proof.Slots

/-! The contents the kernel leaves in its buffers, as functions of the two argument arrays alone. -/

@[expose] public section

set_option maxRecDepth 16384

noncomputable section

namespace Cert.KernelIdeal.Hand

open Cert.KernelIdeal.Gen
open Idealize.ShloMosaic Idealize.ShloMosaic.TcCoe

variable {F : FTy → Type} [FloatOps F]

/-- The four row blocks the first point stores into the scratch of doubled normalised positives. -/
def pieces4 (X : S1024x2x2048.Idx → Elt F .f32) : List (View.Piece (Elt F) S1024x2048 .bf16) :=
  [⟨Rect.unit (s := S1024x2048) ![768, 0] S256x2048.size inb_S1024x2048_S256x2048_768_0, k0_pay21 (slot X 1 3)⟩,
    ⟨Rect.unit (s := S1024x2048) ![512, 0] S256x2048.size inb_S1024x2048_S256x2048_512_0, k0_pay15 k0_pay17 (slot X 1 2)⟩,
    ⟨Rect.unit (s := S1024x2048) ![256, 0] S256x2048.size inb_S1024x2048_S256x2048_256_0, k0_pay10 k0_pay17 (slot X 1 1)⟩,
    ⟨Rect.unit (s := S1024x2048) ![0, 0] S256x2048.size inb_S1024x2048_S256x2048_0_0, k0_pay5 k0_pay17 (slot X 1 0)⟩]

/-- The four row blocks the first point stores into the column of the positives' own terms. -/
def pieces5 (X : S1024x2x2048.Idx → Elt F .f32) : List (View.Piece (Elt F) S1024x1 .f32) :=
  [⟨Rect.unit (s := S1024x1) ![768, 0] S256x1.size inb_S1024x1_S256x1_768_0, k0_pay22 (slot X 1 3)⟩,
    ⟨Rect.unit (s := S1024x1) ![512, 0] S256x1.size inb_S1024x1_S256x1_512_0, k0_pay16 k0_pay17 (slot X 1 2)⟩,
    ⟨Rect.unit (s := S1024x1) ![256, 0] S256x1.size inb_S1024x1_S256x1_256_0, k0_pay11 k0_pay17 (slot X 1 1)⟩,
    ⟨Rect.unit (s := S1024x1) ![0, 0] S256x1.size inb_S1024x1_S256x1_0_0, k0_pay6 k0_pay17 (slot X 1 0)⟩]

/-- The scratch of doubled normalised positives after the first point. -/
def posRows (X : S1024x2x2048.Idx → Elt F .f32) : Vec F S1024x2048 .bf16 := View.canon (pieces4 X)

/-- The column of the positives' own terms after the first point. -/
def posCol (X : S1024x2x2048.Idx → Elt F .f32) : Vec F S1024x1 .f32 := View.canon (pieces5 X)

/-- The four stores of the first point cover the scratch of positives. -/
theorem pieces4_cover (X : S1024x2x2048.Idx → Elt F .f32) (y : S1024x2048.Idx) : ∃ pc ∈ pieces4 X, y ∈ pc.1.set :=
  View.cover_of_tiledL (pieces4 X) S256x2048.size (by sl_kernel_rfl) y

/-- The four stores of the first point cover the column of the positives' own terms. -/
theorem pieces5_cover (X : S1024x2x2048.Idx → Elt F .f32) (y : S1024x1.Idx) : ∃ pc ∈ pieces5 X, y ∈ pc.1.set :=
  View.cover_of_tiledL (pieces5 X) S256x1.size (by sl_kernel_rfl) y

/-- The first of the four chunks of the column, as the body loads them. -/
abbrev chunk0 (cp : Vec F S1024x1 .f32) : Vec F S256x1 .f32 := View.ld cp (Rect.unit (s := S1024x1) ![0, 0] S256x1.size inb_S1024x1_S256x1_0_0)
/-- The second chunk of the column. -/
abbrev chunk1 (cp : Vec F S1024x1 .f32) : Vec F S256x1 .f32 := View.ld cp (Rect.unit (s := S1024x1) ![256, 0] S256x1.size inb_S1024x1_S256x1_256_0)
/-- The third chunk of the column. -/
abbrev chunk2 (cp : Vec F S1024x1 .f32) : Vec F S256x1 .f32 := View.ld cp (Rect.unit (s := S1024x1) ![512, 0] S256x1.size inb_S1024x1_S256x1_512_0)
/-- The fourth chunk of the column. -/
abbrev chunk3 (cp : Vec F S1024x1 .f32) : Vec F S256x1 .f32 := View.ld cp (Rect.unit (s := S1024x1) ![768, 0] S256x1.size inb_S1024x1_S256x1_768_0)

/-- What a grid point with index word `i` adds to the running sum `o`, from its block of anchors and the two scratches. -/
def step (i : BitVec 32) (xa : Vec F S1x256x2048 .f32) (pb : Vec F S1024x2048 .bf16) (cp : Vec F S1024x1 .f32) (o : Vec F S1x1 .f32) :
    FVec F S1x1 .f32 :=
  k0_pay37 i (k0_pay23 xa pb) k0_pay24 k0_pay25
    (k0_pay32 i (k0_pay23 xa pb) k0_pay25 k0_pay26 (chunk0 cp) (chunk1 cp))
    (k0_pay33 i (k0_pay23 xa pb) k0_pay24 k0_pay27 (chunk0 cp) (chunk1 cp))
    (k0_pay34 (k0_pay23 xa pb) (chunk2 cp)) (k0_pay35 i) (k0_pay36 i) (chunk3 cp) o

end Cert.KernelIdeal.Hand

end
-- ==== Proof.RunA.lean ====
module

public import proofs.«01_k».proof.Proof.Contents

/-! The body at the first grid point: it lands the positives, stores their rows and their own terms, starts the ring and takes the
first block's share. -/

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in set_option sl_exec.dmaWindow true in set_option sl_exec.dmaWindowSet true in
/-- The body at the first point: from the output block and the scratches at any contents, with the ring at rest, it ends with the
output at the first block's share of the loss, the two scratches at the positives' rows and own terms, and three blocks on their way. -/
theorem kernelRun0_A (c : Dev nD) (t : Fin cfg0.N) (arg3 : Memref sig .tc .vmem S1x1 .f32) (harg3 : arg3.IsWhole) (arg4 : Memref sig .tc .vmem S1024x2048 .bf16) (harg4 : arg4.IsWhole) (arg5 : Memref sig .tc .vmem S1024x1 .f32) (harg5 : arg5.IsWhole) (arg7 : Memref sig .tc .vmem S4x256x2048 .f32) (harg7 : arg7.IsWhole) (hc0 : cond0_0 (grid0.coords t))
     (fh0 : HbBuf0 (F := F) c hbM0_0) (fh1 : HbBuf0 (F := F) c hbM0_1) :
      ∀ (W : Waits sig Unit) (K : PUnit → sProp 𝕄),
        iprop((∃ d, owns (c : Thread nD τ) arg3 fullShare d) ∗ (∃ d, owns (c : Thread nD τ) arg4 fullShare d) ∗ (∃ d, owns (c : Thread nD τ) arg5 fullShare d) ∗ (∃ d, owns (c : Thread nD τ) arg7 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_1 fh1 ∗ Ring.free (cellP0_0 c) (slotW0_0 c fh0) (Ring.sl 4 t.val) ∗ Ring.free (cellP0_0 c) (slotW0_0 c fh0) (Ring.sl 4 (t.val + 1)) ∗ Ring.free (cellP0_0 c) (slotW0_0 c fh0) (Ring.sl 4 (t.val + 2)) ∗ Ring.free (cellP0_0 c) (slotW0_0 c fh0) (Ring.sl 4 (t.val + 3)) ∗ owes (c : Thread nD τ) 0 W
            ∗ (iprop(owns (c : Thread nD τ) arg3 fullShare (step (BitVec.ofNat 32 (grid0.coords t 0).val) (slot fh0 0 (Ring.bk 4 t.val)) (posRows fh1) (posCol fh1) k0_pay1) ∗ owns (c : Thread nD τ) arg4 fullShare (posRows fh1) ∗ owns (c : Thread nD τ) arg5 fullShare (posCol fh1) ∗ (∃ d, owns (c : Thread nD τ) arg7 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_1 fh1 ∗ Ring.inflight (flightW0_0 c fh0) (Ring.sl 4 (t.val + 1)) (Ring.bk 4 (t.val + 1)) ∗ Ring.inflight (flightW0_0 c fh0) (Ring.sl 4 (t.val + 2)) (Ring.bk 4 (t.val + 2)) ∗ Ring.inflight (flightW0_0 c fh0) (Ring.sl 4 (t.val + 3)) (Ring.bk 4 (t.val + 3)) ∗ Ring.free (cellP0_0 c) (slotW0_0 c fh0) (Ring.sl 4 t.val) ∗ (∃ W', owes (c : Thread nD τ) 0 W')) -∗ K ⟨⟩))
          ⊢ wp frame (wpE (defs₀ (F := F)) Variants.none c none) Set.univ (cc0__triplet_kernel (grid0.coords t) (Memref.whole main_arg0) (Memref.isWhole_whole _) (Memref.whole main_arg1) (Memref.isWhole_whole _) arg3 harg3 arg4 harg4 arg5 harg5 scM0_2 (Memref.isWhole_whole _) arg7 harg7 cc0_scratch4 cc0_scratch5) K := by
    intro W K
    haveI : Fact (cond0_0 (grid0.coords t)) := ⟨hc0⟩
    simp only [cc0__triplet_kernel_eq_skeleton]; unfold cc0__triplet_kernel_skel
    simp only [k0_part6_eq_skeleton, k0_part1_eq_skeleton, k0_part2_eq_skeleton, k0_part3_eq_skeleton, k0_part4_eq_skeleton, k0_part5_eq_skeleton, k0_part7_eq_skeleton, k0_part8_eq_skeleton]
    have ht := (rstep0_0_A t hc0).1
    have hcanon0 := slot_name (Ring.sl 4 t.val) ![0, 0, 0] (by rw [ht]; rfl) inb_S4x256x2048_S1x256x2048_0_0_0
    have hcanon1 := cell_name (Ring.sl 4 t.val) ![0] (by rw [ht]; rfl) inb_S4_S1_0
    have hcanon2 := block_name (Ring.bk 4 t.val) ![0, 0, 0] (by rw [ht]; rfl) inb_S1024x2x2048_S256x1x2048_0_0_0
    have hcanon3 := slot_name (Ring.sl 4 (t.val + 1)) ![1, 0, 0] (by rw [ht]; rfl) inb_S4x256x2048_S1x256x2048_1_0_0
    have hcanon4 := cell_name (Ring.sl 4 (t.val + 1)) ![1] (by rw [ht]; rfl) inb_S4_S1_1
    have hcanon5 := block_name (Ring.bk 4 (t.val + 1)) ![256, 0, 0] (by rw [ht]; rfl) inb_S1024x2x2048_S256x1x2048_256_0_0
    have hcanon6 := slot_name (Ring.sl 4 (t.val + 2)) ![2, 0, 0] (by rw [ht]; rfl) inb_S4x256x2048_S1x256x2048_2_0_0
    have hcanon7 := cell_name (Ring.sl 4 (t.val + 2)) ![2] (by rw [ht]; rfl) inb_S4_S1_2
    have hcanon8 := block_name (Ring.bk 4 (t.val + 2)) ![512, 0, 0] (by rw [ht]; rfl) inb_S1024x2x2048_S256x1x2048_512_0_0
    have hcanon9 := slot_name (Ring.sl 4 (t.val + 3)) ![3, 0, 0] (by rw [ht]; rfl) inb_S4x256x2048_S1x256x2048_3_0_0
    have hcanon10 := cell_name (Ring.sl 4 (t.val + 3)) ![3] (by rw [ht]; rfl) inb_S4_S1_3
    have hcanon11 := block_name (Ring.bk 4 (t.val + 3)) ![768, 0, 0] (by rw [ht]; rfl) inb_S1024x2x2048_S256x1x2048_768_0_0
    unfold owns Ring.free Ring.inflight
    iintro ⟨⟨%d0, %f0, -, H0⟩, ⟨%ds0, %fs0, -, HS0⟩, ⟨%ds1, %fs1, -, HS1⟩, ⟨%ds3, %fs3, -, HS3⟩, Hq4, Hq5, Hq6, Hq7, Hh1, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_0_3, ⟨%fs0_0_3, Hs0_0_3, Hw0_0_3⟩⟩, HW, Hk⟩
    ihave Hsp0_0_0 := (src0_0_split c fh0 (Ring.sl 4 t.val) (Ring.bk 4 t.val)).1 $$ Hw0_0_0
    icases Hsp0_0_0 with ⟨Hh0_0_0, Hr0_0_0⟩
    ihave Hsp0_0_1 := (src0_0_split c fh0 (Ring.sl 4 (t.val + 1)) (Ring.bk 4 (t.val + 1))).1 $$ Hw0_0_1
    icases Hsp0_0_1 with ⟨Hh0_0_1, Hr0_0_1⟩
    ihave Hsp0_0_2 := (src0_0_split c fh0 (Ring.sl 4 (t.val + 2)) (Ring.bk 4 (t.val + 2))).1 $$ Hw0_0_2
    icases Hsp0_0_2 with ⟨Hh0_0_2, Hr0_0_2⟩
    ihave Hsp0_0_3 := (src0_0_split c fh0 (Ring.sl 4 (t.val + 3)) (Ring.bk 4 (t.val + 3))).1 $$ Hw0_0_3
    icases Hsp0_0_3 with ⟨Hh0_0_3, Hr0_0_3⟩
    sl_exec (disch := first | sl_exact hc0)
    have e3 : kernelRun0_A.sl.v282 c arg7 fh1 fs3 = slot fh1 1 3 :=
      (load_slot_same arg7.view rfl _ _ _ _ _).trans (funext fun x => slot_of_block fh1 1 3 _ _ rfl _ _ x)
    have e2 : kernelRun0_A.sl.v249 c arg7 fh1 fs3 = slot fh1 1 2 :=
      (load_slot_other arg7.view (by decide) _ _ _ _ _).trans
      ((load_slot_same arg7.view rfl _ _ _ _ _).trans (funext fun x => slot_of_block fh1 1 2 _ _ rfl _ _ x))
    have e1 : kernelRun0_A.sl.v216 c arg7 fh1 fs3 = slot fh1 1 1 :=
      (load_slot_other arg7.view (by decide) _ _ _ _ _).trans
      ((load_slot_other arg7.view (by decide) _ _ _ _ _).trans
      ((load_slot_same arg7.view rfl _ _ _ _ _).trans (funext fun x => slot_of_block fh1 1 1 _ _ rfl _ _ x)))
    have e0 : kernelRun0_A.sl.v183 c arg7 fh1 fs3 = slot fh1 1 0 :=
      (load_slot_other arg7.view (by decide) _ _ _ _ _).trans
      ((load_slot_other arg7.view (by decide) _ _ _ _ _).trans
      ((load_slot_other arg7.view (by decide) _ _ _ _ _).trans
      ((load_slot_same arg7.view rfl _ _ _ _ _).trans (funext fun x => slot_of_block fh1 1 0 _ _ rfl _ _ x))))
    have h4 : kernelRun0_A.sl.HS0_4 c arg7 fh1 fs3 = pieces4 fh1 := by
      unfold kernelRun0_A.sl.HS0_4 pieces4; rw [e0, e1, e2, e3]
    have h5 : kernelRun0_A.sl.HS1_4 c arg7 fh1 fs3 = pieces5 fh1 := by
      unfold kernelRun0_A.sl.HS1_4 pieces5; rw [e0, e1, e2, e3]
    have hx : kernelRun0_A.sl.v12 c t fh0 = slot fh0 0 (Ring.bk 4 t.val) := by
      unfold kernelRun0_A.sl.v12
      rw [← View.write_univ_eq_writes_whole]
      exact (load_slot_same scM0_2.view (load_off t) _ _ _ _ _).trans (funext fun x => slot_of_block fh0 0 (Ring.bk 4 t.val) _ _ rfl _ _ x)
    have hp : kernelRun0_A.sl.v24 c arg4 arg7 fh1 fs3 = posRows fh1 := by
      unfold kernelRun0_A.sl.v24
      rw [h4, View.readCov_eq_canon_ld _ _ _ (pieces4_cover fh1)]
      funext x
      exact congrArg (posRows fh1) (Rect.emb_unit_full _ x)
    have hc0' : kernelRun0_A.sl.v34 c arg5 arg7 fh1 fs3 = chunk0 (posCol fh1) := by
      unfold kernelRun0_A.sl.v34
      rw [h5, View.readCov_eq_canon_ld _ _ _ (pieces5_cover fh1)]; rfl
    have hc1' : kernelRun0_A.sl.v54 c arg5 arg7 fh1 fs3 = chunk1 (posCol fh1) := by
      unfold kernelRun0_A.sl.v54
      rw [h5, View.readCov_eq_canon_ld _ _ _ (pieces5_cover fh1)]; rfl
    have hc2' : kernelRun0_A.sl.v74 c arg5 arg7 fh1 fs3 = chunk2 (posCol fh1) := by
      unfold kernelRun0_A.sl.v74
      rw [h5, View.readCov_eq_canon_ld _ _ _ (pieces5_cover fh1)]; rfl
    have hc3' : kernelRun0_A.sl.v94 c arg5 arg7 fh1 fs3 = chunk3 (posCol fh1) := by
      unfold kernelRun0_A.sl.v94
      rw [h5, View.readCov_eq_canon_ld _ _ _ (pieces5_cover fh1)]; rfl
    have ho : kernelRun0_A.sl.v119 (F := F) c arg3 = k0_pay1 := by
      unfold kernelRun0_A.sl.v119 kernelRun0_A.sl.H0_1
      exact View.readCov_full _ _ _ _ _
    have hr : kernelRun0_A.sl.r_6 c t arg3 arg4 arg5 arg7 fh0 fh1 fs3
        = step (BitVec.ofNat 32 (grid0.coords t 0).val) (slot fh0 0 (Ring.bk 4 t.val)) (posRows fh1) (posCol fh1) k0_pay1 := by
      unfold kernelRun0_A.sl.r_6 kernelRun0_A.sl.r_1 kernelRun0_A.sl.r_2 kernelRun0_A.sl.r_3 kernelRun0_A.sl.r_4 kernelRun0_A.sl.r_5 kernelRun0_A.sl.r
      rw [hx, hp, hc0', hc1', hc2', hc3', ho]; rfl
    rw [hr, h4, h5]
    sl_step
    iapply Hk
    isplitl [H0]
    · iexists _; isplitr; swap; · iexact H0
      ipureintro
      exact View.read_writes_full _ _ _ _ _
    isplitl [HS0]
    · iexists _; isplitr; swap; · iexact HS0
      ipureintro
      exact View.read_writes_eq_canon _ _ _ (pieces4_cover fh1)
    isplitl [HS1]
    · iexists _; isplitr; swap; · iexact HS1
      ipureintro
      exact View.read_writes_eq_canon _ _ _ (pieces5_cover fh1)
    isplitl [HS3]
    · iexists _, _; isplitr; swap; · iexact HS3
      ipureintro; rfl
    isplitl [Hq4]; · iexact Hq4
    isplitl [Hq5]; · iexact Hq5
    isplitl [Hq6]; · iexact Hq6
    isplitl [Hq7]; · iexact Hq7
    isplitl [Hh1]; · iexact Hh1
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_3 Hr0_0_3]
    · iexists _; isplitl [Hc0_0_3]; · iexact Hc0_0_3
      iexact Hr0_0_3
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 4 t.val) (Ring.bk 4 t.val)).2; isplitl [Hh0_0_0]; · iexact Hh0_0_0
      iexact Hr0_0_0
    iexists _; iexact HW

end Cert.KernelIdeal.Hand

end
-- ==== Proof.RunB.lean ====
module

public import proofs.«01_k».proof.Proof.RunA

/-! The body at a later grid point: it waits for its block of anchors and adds the block's share to the running sum. -/

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at a later point: from the output block at `o`, the scratches at `pb` and `cp` and the point's own block on its way, it
ends with the output at `o` and the block's share, the scratches unchanged and the block's slot at rest again. -/
theorem kernelRun0_B (c : Dev nD) (t : Fin cfg0.N) (arg3 : Memref sig .tc .vmem S1x1 .f32) (harg3 : arg3.IsWhole) (arg4 : Memref sig .tc .vmem S1024x2048 .bf16) (harg4 : arg4.IsWhole) (arg5 : Memref sig .tc .vmem S1024x1 .f32) (harg5 : arg5.IsWhole) (arg7 : Memref sig .tc .vmem S4x256x2048 .f32) (harg7 : arg7.IsWhole) (hc0 : ¬cond0_0 (grid0.coords t))
     (o : Vec F S1x1 .f32) (pb : Vec F S1024x2048 .bf16) (cp : Vec F S1024x1 .f32) (fh0 : HbBuf0 (F := F) c hbM0_0) (fh1 : HbBuf0 (F := F) c hbM0_1) :
      ∀ (W : Waits sig Unit) (K : PUnit → sProp 𝕄),
        iprop(owns (c : Thread nD τ) arg3 fullShare (o) ∗ owns (c : Thread nD τ) arg4 fullShare pb ∗ owns (c : Thread nD τ) arg5 fullShare cp ∗ (∃ d, owns (c : Thread nD τ) arg7 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_1 fh1 ∗ Ring.inflight (flightW0_0 c fh0) (Ring.sl 4 t.val) (Ring.bk 4 t.val) ∗ Ring.slotAt 3 (cellP0_0 c) (slotW0_0 c fh0) (flightW0_0 c fh0) t.val 1 ∗ Ring.slotAt 3 (cellP0_0 c) (slotW0_0 c fh0) (flightW0_0 c fh0) t.val 2 ∗ Ring.free (cellP0_0 c) (slotW0_0 c fh0) (Ring.sl 4 (t.val + 3)) ∗ owes (c : Thread nD τ) 0 W
            ∗ (iprop(owns (c : Thread nD τ) arg3 fullShare (step (BitVec.ofNat 32 (grid0.coords t 0).val) (slot fh0 0 (Ring.bk 4 t.val)) pb cp o) ∗ owns (c : Thread nD τ) arg4 fullShare pb ∗ owns (c : Thread nD τ) arg5 fullShare cp ∗ (∃ d, owns (c : Thread nD τ) arg7 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_1 fh1 ∗ Ring.slotAt 3 (cellP0_0 c) (slotW0_0 c fh0) (flightW0_0 c fh0) t.val 1 ∗ Ring.slotAt 3 (cellP0_0 c) (slotW0_0 c fh0) (flightW0_0 c fh0) t.val 2 ∗ Ring.free (cellP0_0 c) (slotW0_0 c fh0) (Ring.sl 4 (t.val + 3)) ∗ Ring.free (cellP0_0 c) (slotW0_0 c fh0) (Ring.sl 4 t.val) ∗ (∃ W', owes (c : Thread nD τ) 0 W')) -∗ K ⟨⟩))
          ⊢ wp frame (wpE (defs₀ (F := F)) Variants.none c none) Set.univ (cc0__triplet_kernel (grid0.coords t) (Memref.whole main_arg0) (Memref.isWhole_whole _) (Memref.whole main_arg1) (Memref.isWhole_whole _) arg3 harg3 arg4 harg4 arg5 harg5 scM0_2 (Memref.isWhole_whole _) arg7 harg7 cc0_scratch4 cc0_scratch5) K := by
    intro W K
    haveI : Fact (¬cond0_0 (grid0.coords t)) := ⟨hc0⟩
    simp only [cc0__triplet_kernel_eq_skeleton]; unfold cc0__triplet_kernel_skel
    simp only [k0_part6_eq_skeleton, k0_part7_eq_skeleton, k0_part8_eq_skeleton]
    unfold owns Ring.free Ring.inflight
    iintro ⟨⟨%f0, %hf0, H0⟩, ⟨%fs0, %hs0, HS0⟩, ⟨%fs1, %hs1, HS1⟩, ⟨%ds3, %fs3, -, HS3⟩, Hq4, Hq5, Hq6, Hq7, Hh1, ⟨%ff0_0_0, Hf0_0_0, Hrf0_0_0⟩, Hro0_0_1, Hro0_0_2, ⟨Hc0_0_3, ⟨%fs0_0_3, Hs0_0_3, Hw0_0_3⟩⟩, HW, Hk⟩
    sl_exec (disch := first | sl_exact hc0)
    have hx : kernelRun0_B.sl.v12 c t fh0 = slot fh0 0 (Ring.bk 4 t.val) := by
      unfold kernelRun0_B.sl.v12
      rw [← View.write_univ_eq_writes_whole]
      exact (load_slot_same scM0_2.view (load_off t) _ _ _ _ _).trans (funext fun x => slot_of_block fh0 0 (Ring.bk 4 t.val) _ _ rfl _ _ x)
    have hr : kernelRun0_B.sl.r_7 c t arg3 arg4 arg5 fh0 f0 fs0 fs1
        = step (BitVec.ofNat 32 (grid0.coords t 0).val) (slot fh0 0 (Ring.bk 4 t.val)) pb cp o := by
      unfold kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
      subst hf0 hs0 hs1
      rw [hx, View.readAt_full, View.readAt_full]; rfl
    rw [hr]
    sl_step
    iapply Hk
    isplitl [H0]
    · iexists _; isplitr; swap; · iexact H0
      ipureintro
      exact View.read_writes_full _ _ _ _ _
    isplitl [HS0]
    · iexists _; isplitr; swap; · iexact HS0
      ipureintro
      exact hs0
    isplitl [HS1]
    · iexists _; isplitr; swap; · iexact HS1
      ipureintro
      exact hs1
    isplitl [HS3]
    · iexists _, _; isplitr; swap; · iexact HS3
      ipureintro; rfl
    isplitl [Hq4]; · iexact Hq4
    isplitl [Hq5]; · iexact Hq5
    isplitl [Hq6]; · iexact Hq6
    isplitl [Hq7]; · iexact Hq7
    isplitl [Hh1]; · iexact Hh1
    isplitl [Hro0_0_1]; · iexact Hro0_0_1
    isplitl [Hro0_0_2]; · iexact Hro0_0_2
    isplitl [Hc0_0_3 Hs0_0_3 Hw0_0_3]
    · isplitl [Hc0_0_3]; · iexact Hc0_0_3
      iexists _; isplitl [Hs0_0_3]; · iexact Hs0_0_3
      iexact Hw0_0_3
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 4 t.val) (Ring.bk 4 t.val)).2; isplitl [Hf0_0_0_src]; · iexact Hf0_0_0_src
      iexact Hrf0_0_0
    iexists _; iexact HW

end Cert.KernelIdeal.Hand

end
-- ==== Proof.Launch.lean ====
module

public import proofs.«01_k».proof.Proof.RunB
public import Idealize.ShloMosaic.Lib.Claim

/-! The launch of the idealized kernel with everything it leaves named: the body's obligation at every grid point, over the
running sum in the output block and the two scratches of positives, and the run of the whole program. -/

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The running sum -/

/-- The index word the body computes with at point `n`. -/
abbrev word (t : Fin cfg0.N) : BitVec 32 := BitVec.ofNat 32 (grid0.coords t 0).val

/-- The running sum after point `n`: each point adds its block's share. -/
def sumAt (c : Dev nD) : (n : ℕ) → n < cfg0.N → Vec F S1x1 .f32
  | 0, hn => step (word ⟨0, hn⟩) (slot (V m c main_arg0) 0 (Ring.bk 4 0)) (posRows (V m c main_arg1)) (posCol (V m c main_arg1)) k0_pay1
  | n + 1, hn => step (word ⟨n + 1, hn⟩) (slot (V m c main_arg0) 0 (Ring.bk 4 (n + 1))) (posRows (V m c main_arg1)) (posCol (V m c main_arg1))
      (sumAt c n (Nat.lt_of_succ_lt hn))

/-- At the first point the sum starts from zero. -/
theorem sumAt_first (c : Dev nD) (t : Fin cfg0.N) (h0 : t.val = 0) :
    sumAt m c t.val t.isLt = step (word t) (slot (V m c main_arg0) 0 (Ring.bk 4 t.val)) (posRows (V m c main_arg1)) (posCol (V m c main_arg1)) k0_pay1 := by
  obtain ⟨n, hn⟩ := t
  cases n with
  | zero => rfl
  | succ n => exact absurd h0 (Nat.succ_ne_zero n)

/-- At a later point it goes on from what the point before left. -/
theorem sumAt_later (c : Dev nD) (t : Fin cfg0.N) (h0 : t.val ≠ 0) :
    sumAt m c t.val t.isLt = step (word t) (slot (V m c main_arg0) 0 (Ring.bk 4 t.val)) (posRows (V m c main_arg1)) (posCol (V m c main_arg1))
      (sumAt m c (t.val - 1) (Nat.lt_of_le_of_lt (Nat.sub_le _ _) t.isLt)) := by
  obtain ⟨n, hn⟩ := t
  cases n with
  | zero => exact absurd rfl h0
  | succ n => rfl

/-! ## The pipeline's proof data -/

/-- The two scratches of positives before point `k`: at anything before the first point, afterwards at their named contents. -/
def posAt (c : Dev nD) : ℕ → sProp 𝕄
  | 0 => iprop((∃ d, owns (c : Thread nD τ) scM0_0 fullShare d) ∗ (∃ d, owns (c : Thread nD τ) scM0_1 fullShare d))
  | _ + 1 => iprop(owns (c : Thread nD τ) scM0_0 fullShare (posRows (V m c main_arg1)) ∗ owns (c : Thread nD τ) scM0_1 fullShare (posCol (V m c main_arg1)))

/-- Before the first point the two scratches hold whatever they held. -/
theorem posAt_zero (c : Dev nD) (k : ℕ) (h : k = 0) : posAt m c k
    = iprop((∃ d, owns (c : Thread nD τ) scM0_0 fullShare d) ∗ (∃ d, owns (c : Thread nD τ) scM0_1 fullShare d)) := by subst h; rfl

/-- From the first point on the two scratches hold the named contents. -/
theorem posAt_pos (c : Dev nD) (k : ℕ) (h : k ≠ 0) : posAt m c k
    = iprop(owns (c : Thread nD τ) scM0_0 fullShare (posRows (V m c main_arg1)) ∗ owns (c : Thread nD τ) scM0_1 fullShare (posCol (V m c main_arg1))) := by
  cases k with
  | zero => exact absurd rfl h
  | succ k => rfl

/-- The invariant before point `k`: the two scratches of positives, the landing buffer of their copies at anything, the
    generator register, the copies' own counters at zero, the array the positives come from, and the ring of anchor copies. -/
def PhiR (c : Dev nD) (k : ℕ) : sProp 𝕄 := iprop(posAt m c k ∗ (∃ d, owns (c : Thread nD τ) scM0_3 fullShare d) ∗ (∃ r, prngReg c r) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_1 (V m c main_arg1) ∗ ringAt0_0 c (V m c main_arg0) k)

/-- The proof data: the arrays as launched, the output block at the running sum after each point, the invariant `PhiR`. -/
def dats (_ : Fin 1) (c : Dev nD) : Dat τ (Elt F) Unit ℕ (Pipeline.UD sig nD τ) ℕ cfg0 c where
  A w := V m c (Pipeline.arrRef spec0 w)
  after w t := match w with
    | ⟨0, _⟩ => sumAt m c t.val t.isLt
  Φ t := PhiR m c t.val
  q _ := fullShare
  owed _ := 0

/-- The arrays the proof data names are the contents the region is entered with. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves in the output block. -/
theorem after0_0 (c : Dev nD) (t : Fin cfg0.N) : (dats m 0 c).after 0 t = sumAt m c t.val t.isLt := by dsimp only [dats]

/-- At a later point the output block holds what the point before left: it is not written back in between. -/
theorem before0_0 (c : Dev nD) (t : Fin cfg0.N) (h0 : ¬t.val % 4 = 0) (d) :
    (dats m 0 c).before 0 t d = sumAt m c (t.val - 1) (Nat.lt_of_le_of_lt (Nat.sub_le _ _) t.isLt) := by
  have hN : t.val < 4 := lt_of_lt_of_eq t.isLt (show cfg0.N = 4 from N_0)
  rw [Dat.before_out_kept _ 0 rfl t (by omega) (Bool.eq_false_iff.mpr fun h => by have := (flush0_0 _).mp h; dsimp only at this; omega)
    (fun _ => rfl) (fun _ _ => rfl)]
  dsimp only [dats]

/-! ## The body obligation, at a generic point -/

/-- What the body is called with at point `t`: the invariant, the debts and the output block. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 800000 in
/-- The body at any point takes the invariant and the output block from what they are before the point to what they are after it. The
    first point and the later ones are separate cases, each closed by its run; the ring of anchor copies moves one step in each. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  rw [after0_0]
  unfold PhiR ringAt0_0
  have hgN : grid0.N = 4 := N_0
  have hN : t.val < 4 := lt_of_lt_of_eq t.isLt (show cfg0.N = 4 from N_0)
  by_cases h0 : t.val % 4 = 0
  · have hr0 := rstep0_0_A t ((hcond0_0 t).mpr h0)
    obtain ⟨hK00, hK10⟩ := hr0
    rw [if_pos hK00, if_neg (show ¬t.val + 1 = 0 by omega)]
    rw [Ring.At₀_eq4' _ _ _ t.val hK00 (by decide : 4 ≤ 4), Ring.At4_one' _ _ _ _ t.val hK00 (by decide : 4 ≤ 4)]
    rw [posAt_zero m c t.val (by omega), posAt_pos m c (t.val + 1) (by omega), sumAt_first m c t (by omega)]
    iintro ⟨⟨⟨HS0, HS1⟩, HS3, Hg, Hq4, Hq5, Hq6, Hq7, Hh1, ⟨-, Hfr0_0_0, Hfr0_0_1, Hfr0_0_2, Hfr0_0_3⟩⟩, ⟨%W, -, HW⟩, ⟨%d0, H0⟩⟩
    iapply ((kernelRun0_A c t _ _ _ _ _ _ _ _ ((hcond0_0 t).mpr h0)  (V m c main_arg0) (V m c main_arg1)) W _)
    isplitl [H0]; · iexists _; iexact H0
    isplitl [HS0]; · iexact HS0
    isplitl [HS1]; · iexact HS1
    isplitl [HS3]; · iexact HS3
    isplitl [Hq4]; · iexact Hq4
    isplitl [Hq5]; · iexact Hq5
    isplitl [Hq6]; · iexact Hq6
    isplitl [Hq7]; · iexact Hq7
    isplitl [Hh1]; · iexact Hh1
    isplitl [Hfr0_0_0]; · iexact Hfr0_0_0
    isplitl [Hfr0_0_1]; · iexact Hfr0_0_1
    isplitl [Hfr0_0_2]; · iexact Hfr0_0_2
    isplitl [Hfr0_0_3]; · iexact Hfr0_0_3
    isplitl [HW]; · iexact HW
    iintro ⟨H0, HS0, HS1, HS3, Hq4, Hq5, Hq6, Hq7, Hh1, Hfa0_0', Hfb0_0', Hfc0_0', Hfd0_0', ⟨%W', HW'⟩⟩
    isplitl [HS0 HS1 HS3 Hg Hq4 Hq5 Hq6 Hq7 Hh1 Hfa0_0' Hfb0_0' Hfc0_0' Hfd0_0']
    · isplitl [HS0 HS1]
      · isplitl [HS0]; · iexact HS0
        iexact HS1
      isplitl [HS3]; · iexact HS3
      isplitl [Hg]; · iexact Hg
      isplitl [Hq4]; · iexact Hq4
      isplitl [Hq5]; · iexact Hq5
      isplitl [Hq6]; · iexact Hq6
      isplitl [Hq7]; · iexact Hq7
      isplitl [Hh1]; · iexact Hh1
      iapply (Ring.with_homes (Idealize.SL.BI.Entails.refl _))
      isplitl [Hfa0_0']; · iexact Hfa0_0'
      isplitl [Hfb0_0']; · iexact Hfb0_0'
      isplitl [Hfc0_0']; · iexact Hfc0_0'
      iexact Hfd0_0'
    isplitl [HW']
    · iexists W'; isplitr; · ipureintro; exact fun _ _ => Or.inl trivial
      iexact HW'
    iexact H0
  · have hr0 := rstep0_0_B t (fun h => h0 ((hcond0_0 t).mp h))
    obtain ⟨hK10, hKB0, hKlt0, hKs0⟩ := hr0
    rw [if_neg (show ¬t.val = 0 by omega), if_neg (show ¬t.val + 1 = 0 by omega)]
    rw [Ring.At4_here_tail _ _ _ _ t.val hKlt0, Ring.At4_next_tail _ _ _ _ t.val hKB0 hKlt0, Ring.slotAt4_tail_role _ _ _ t.val, Ring.slotAt4_tail_role1 _ _ _ t.val]
    rw [posAt_pos m c t.val (by omega), posAt_pos m c (t.val + 1) (by omega), sumAt_later m c t (by omega)]
    simp only [before0_0 m c t h0]
    iintro ⟨⟨⟨HS0, HS1⟩, HS3, Hg, Hq4, Hq5, Hq6, Hq7, Hh1, ⟨-, Hfr0_0_0, Hfr0_0_1, Hfr0_0_2, Hfr0_0_3⟩⟩, ⟨%W, -, HW⟩, ⟨%d0, H0⟩⟩
    iapply ((kernelRun0_B c t _ _ _ _ _ _ _ _ (fun h => h0 ((hcond0_0 t).mp h)) _ _ _ (V m c main_arg0) (V m c main_arg1)) W _)
    isplitl [H0]; · iexact H0
    isplitl [HS0]; · iexact HS0
    isplitl [HS1]; · iexact HS1
    isplitl [HS3]; · iexact HS3
    isplitl [Hq4]; · iexact Hq4
    isplitl [Hq5]; · iexact Hq5
    isplitl [Hq6]; · iexact Hq6
    isplitl [Hq7]; · iexact Hq7
    isplitl [Hh1]; · iexact Hh1
    isplitl [Hfr0_0_0]; · iexact Hfr0_0_0
    isplitl [Hfr0_0_1]; · iexact Hfr0_0_1
    isplitl [Hfr0_0_2]; · iexact Hfr0_0_2
    isplitl [Hfr0_0_3]; · iexact Hfr0_0_3
    isplitl [HW]; · iexact HW
    iintro ⟨H0, HS0, HS1, HS3, Hq4, Hq5, Hq6, Hq7, Hh1, Hfa0_0', Hfb0_0', Hfc0_0', Hfd0_0', ⟨%W', HW'⟩⟩
    isplitl [HS0 HS1 HS3 Hg Hq4 Hq5 Hq6 Hq7 Hh1 Hfa0_0' Hfb0_0' Hfc0_0' Hfd0_0']
    · isplitl [HS0 HS1]
      · isplitl [HS0]; · iexact HS0
        iexact HS1
      isplitl [HS3]; · iexact HS3
      isplitl [Hg]; · iexact Hg
      isplitl [Hq4]; · iexact Hq4
      isplitl [Hq5]; · iexact Hq5
      isplitl [Hq6]; · iexact Hq6
      isplitl [Hq7]; · iexact Hq7
      isplitl [Hh1]; · iexact Hh1
      iapply (Ring.with_homes (Idealize.SL.BI.Entails.refl _))
      isplitl [Hfa0_0']; · iexact Hfa0_0'
      isplitl [Hfb0_0']; · iexact Hfb0_0'
      isplitl [Hfc0_0']; · iexact Hfc0_0'
      iexact Hfd0_0'
    isplitl [HW']
    · iexists W'; isplitr; · ipureintro; exact fun _ _ => Or.inl trivial
      iexact HW'
    iexact H0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the theorem on the body above, restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (the scratch, the register, the counters at zero, the operands whole) gives the invariant before
    the first point. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [posAt_zero m c 0 rfl]
  iintro ⟨⟨HS0, HS1, HR0_0, HS3⟩, Hg, ⟨Hq0, Hq1, Hq2, Hq3, Hq4, Hq5, Hq6, Hq7⟩, ⟨Hh0, Hh1⟩⟩
  isplitl [HS0 HS1]
  · isplitl [HS0]; · iexact HS0
    iexact HS1
  isplitl [HS3]; · iexact HS3
  isplitl [Hg]; · iexact Hg
  isplitl [Hq4]; · iexact Hq4
  isplitl [Hq5]; · iexact Hq5
  isplitl [Hq6]; · iexact Hq6
  isplitl [Hq7]; · iexact Hq7
  isplitl [Hh1]; · iexact Hh1
  iapply (ring0_0_in (F := F) m c)
  isplitl [HR0_0]; · iexact HR0_0
  isplitl [Hq0 Hq1 Hq2 Hq3]
  · isplitl [Hq0]; · iexact Hq0
    isplitl [Hq1]; · iexact Hq1
    isplitl [Hq2]; · iexact Hq2
    iexact Hq3
  iexact Hh0
/-- The invariant after the last point hands back what the launch gave the region. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 4 by rw [N_0], posAt_pos m c 4 (by decide)]
  iintro ⟨⟨HS0, HS1⟩, HS3, Hg, Hq4, Hq5, Hq6, Hq7, Hh1, HR0_0⟩
  ihave HX0_0 := (ring0_0_out (F := F) m c) $$ HR0_0
  icases HX0_0 with ⟨HR0_0, ⟨Hq0, Hq1, Hq2, Hq3⟩, Hh0⟩
  isplitl [HS0 HS1 HR0_0 HS3]
  · isplitl [HS0]; · iexists _; iexact HS0
    isplitl [HS1]; · iexists _; iexact HS1
    isplitl [HR0_0]; · iexact HR0_0
    iexact HS3
  isplitl [Hg]
  · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexact Hh1

/-! ## The run -/

set_option backward.isDefEq.respectTransparency.types false in
set_option maxHeartbeats 800000 in
/-- The launch: the program terminates with every array at what the proof data says, the lines after the region run on
    it, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c))⟩) (run_main m ρ)

/-- The frame claim: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.KernelValue.lean ====
/-
  The value run of the idealized kernel: after any run from zero counters the result buffer holds the running
  sum of the fourth grid point, and both arguments are as launched.
-/
module

public import proofs.«01_k».proof.Proof.Launch
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The last grid point is a point of the grid. -/
theorem three_lt : 3 < cfg0.N := by rw [show cfg0.N = 4 from N_0]; decide

/-- The one-cell output array of the region holds the running sum after the last point. -/
theorem array_final (c : Dev nD) :
    (dats m 0 c).arrAt 0 cfg0.N = fun _ => sumAt m c 3 three_lt (ix2 (n0 := 1) (n1 := 1) 0 0) := by
  refine (dats m 0 c).arrAt_eq_of_covers 0 _ (by decide +kernel) fun t hf y => ?_
  have h3 : t.val % 4 = 3 := (flush0_0 t).mp hf
  have hlt : t.val < 4 := lt_of_lt_of_eq t.isLt N_0
  have ht : t = ⟨3, three_lt⟩ := Fin.ext (by show t.val = 3; omega)
  subst ht
  rw [after0_0]
  refine congrArg (sumAt m c 3 three_lt) (funext fun a => ?_)
  match a with
  | ⟨0, _⟩ => exact Subsingleton.elim (α := Fin 1) _ _
  | ⟨1, _⟩ => exact Subsingleton.elim (α := Fin 1) _ _

/-- The result: the running sum after the last point, with the arguments as launched. -/
theorem run_value : θ_run defs (onTc (τ := τ) (main (F := F))) ⟨m, fun _ => 0, ρ⟩ (fun r => ∀ c : Dev nD,
      r.2.mem ((c.tc : Thread nD τ).loc main_v1) = (fun _ => sumAt m c 3 three_lt (ix2 (n0 := 1) (n1 := 1) 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono ?_ (θ_run_and (run_main m ρ) (unchanged m ρ))
  intro r h c
  refine ⟨?_, h.2 c⟩
  refine ((h.1 c).2 main_v1 (Pipeline.mem_restRefs_of main_v1 (by decide) (by decide))).trans ?_
  unfold Pipeline.afterTail₀ hostOps1
  simp only [List.flatten_cons, List.flatten_nil, List.append_nil]
  after_results
  have hA := Pipeline.withArrays_arr (cfgs 0).spec (by decide) c (V0 m c) (fun w => (dats m 0 c).arrAt w (cfgs 0).N) 0
  exact congrArg (fun A : S1x1.Idx → Elt F .f32 => shapeCast S_ A shapeCasts_S1x1_S_) (hA.trans (array_final m c))

end Cert.KernelIdeal.Hand

end
-- ==== Proof.Math.lean ====
module

public import Idealize.ShloMosaic.PureOps.Ideal.Laws
public import Idealize.ShloMosaic.Lib.Pointwise.Index
public import Mathlib.Tactic.Positivity
public import Mathlib.Tactic.NormNum
public import Mathlib.Tactic.Linarith
public import Mathlib.Tactic.Ring
public import Mathlib.Tactic.FieldSimp

/-! The mathematics of the loss, without any program: rows divided by their norms over the extended reals, the squared distance
of two rows, and the nearest of the other rows. -/

@[expose] public section

noncomputable section

namespace Cert.Triplet

open Idealize.ShloMosaic

/-! ## The literals -/

/-- The floor under a norm. -/
def floorLit : ℝ := 9223372 * 2 ^ (-63 : ℤ)
/-- The shift of a difference of rows, the word nearest to 1e-6. -/
def shiftLit : ℝ := 8796093 * 2 ^ (-43 : ℤ)
/-- The filler above every cost, the word nearest to 3e38. -/
def bigLit : ℝ := 14791142 * 2 ^ (104 : ℤ)
/-- The margin of the hinge, the word nearest to 0.3. -/
def marginLit : ℝ := 10066330 * 2 ^ (-25 : ℤ)

/-- The norm's floor is positive. -/
theorem floorLit_pos : 0 < floorLit := by unfold floorLit; positivity

/-- The word of the norm's floor. -/
theorem word_floor : Ideal.ofBits .f32 0x2B8CBCCC#32 = (floorLit : EReal) := by
  simp [Ideal.ofBits, Ideal.ieee, floorLit]
/-- The word of the shift. -/
theorem word_shift : Ideal.ofBits .f32 0x358637BD#32 = (shiftLit : EReal) := by
  simp [Ideal.ofBits, Ideal.ieee, shiftLit]
/-- The word of twice the shift. -/
theorem word_twice_shift : Ideal.ofBits .f32 0x360637BD#32 = ((2 * shiftLit : ℝ) : EReal) := by
  have h : (2 * shiftLit : ℝ) = 8796093 * 2 ^ (-42 : ℤ) := by unfold shiftLit; norm_num
  rw [h]; simp [Ideal.ofBits, Ideal.ieee]
/-- The word of the kernel's large filler. -/
theorem word_big : Ideal.ofBits .f32 0x7F61B1E6#32 = (bigLit : EReal) := by
  simp [Ideal.ofBits, Ideal.ieee, bigLit]
/-- The word of the margin. -/
theorem word_margin : Ideal.ofBits .f32 0x3E99999A#32 = (marginLit : EReal) := by
  simp [Ideal.ofBits, Ideal.ieee, marginLit]
/-- The word of one. -/
theorem word_one : Ideal.ofBits .f32 0x3F800000#32 = 1 := by
  have h : (8388608 * 2 ^ (-23 : ℤ) : ℝ) = 1 := by norm_num
  rw [← EReal.coe_one, ← h]; simp [Ideal.ofBits, Ideal.ieee]
/-- The word of two. -/
theorem word_two : Ideal.ofBits .f32 0x40000000#32 = ((2 : ℝ) : EReal) := by
  have h : (8388608 * 2 ^ (-22 : ℤ) : ℝ) = 2 := by norm_num
  rw [← h]; simp [Ideal.ofBits, Ideal.ieee]
/-- The word of one part in 1024. -/
theorem word_share : Ideal.ofBits .f32 0x3A800000#32 = ((1 / 1024 : ℝ) : EReal) := by
  have h : (8388608 * 2 ^ (-33 : ℤ) : ℝ) = 1 / 1024 := by norm_num
  rw [← h]; simp [Ideal.ofBits, Ideal.ieee]
/-- The word of the number of anchors. -/
theorem word_count : Ideal.ofBits .f32 0x44800000#32 = ((1024 : ℝ) : EReal) := by
  have h : (8388608 * 2 ^ (-13 : ℤ) : ℝ) = 1024 := by norm_num
  rw [← h]; simp [Ideal.ofBits, Ideal.ieee]
/-- The word of the constant term common to every similarity is some real number. -/
theorem word_common : ∃ r : ℝ, Ideal.ofBits .f32 0x310CBCCC#32 = (r : EReal) :=
  ⟨_, by simp only [Ideal.ofBits, Ideal.ieee]; simp; rfl⟩
/-- The word of positive infinity. -/
theorem word_top : Ideal.ofBits .f32 0x7F800000#32 = ⊤ := by simp [Ideal.ofBits, Ideal.ieee]
/-- The word of negative infinity. -/
theorem word_bot : Ideal.ofBits .f32 0xFF800000#32 = ⊥ := by simp [Ideal.ofBits, Ideal.ieee]

/-! ## A row over its norm -/

/-- A sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n : ℕ}

/-- The divisor of a row: its norm, or the floor where the norm is below it. -/
def norm (x : Fin n → EReal) : EReal := max (Ideal.sqrt (∑ k, x k * x k)) (floorLit : EReal)

/-- The entries of a row over its divisor. -/
def unit (x : Fin n → EReal) (k : Fin n) : ℝ := (Ideal.div (x k) (norm x)).toReal

/-- Anything over infinity is zero. -/
theorem div_top (x : EReal) : Ideal.div x ⊤ = 0 := by
  unfold Ideal.div; rw [if_neg (by simp)]; simp

/-- A row with an infinite entry has an infinite divisor. -/
theorem norm_of_infinite (x : Fin n → EReal) (i : Fin n) (h : x i = ⊤ ∨ x i = ⊥) : norm x = ⊤ := by
  have hi : x i * x i = ⊤ := by rcases h with h | h <;> rw [h] <;> simp
  have h0 : ∀ k ∈ Finset.univ, 0 ≤ x k * x k := fun k _ => by
    rcases le_total 0 (x k) with h | h
    · exact mul_nonneg h h
    · have := mul_nonneg (EReal.neg_nonneg.mpr h) (EReal.neg_nonneg.mpr h)
      simpa using this
  have hs : ∑ k, x k * x k = ⊤ := top_le_iff.mp (hi ▸ Finset.single_le_sum h0 (Finset.mem_univ i))
  unfold norm; rw [hs]; exact max_eq_left le_top

/-- The divisor of a row of real numbers is a positive real number, at least the norm. -/
theorem norm_of_real (r : Fin n → ℝ) : ∃ d : ℝ, 0 < d ∧ ∑ k, r k * r k ≤ d * d ∧ norm (fun k => (r k : EReal)) = (d : EReal) := by
  have h0 : 0 ≤ ∑ k, r k * r k := Finset.sum_nonneg fun k _ => mul_self_nonneg _
  refine ⟨max (Real.sqrt (∑ k, r k * r k)) floorLit, lt_max_of_lt_right floorLit_pos, ?_, ?_⟩
  · calc ∑ k, r k * r k = Real.sqrt (∑ k, r k * r k) * Real.sqrt (∑ k, r k * r k) := (Real.mul_self_sqrt h0).symm
      _ ≤ _ := mul_self_le_mul_self (Real.sqrt_nonneg _) (le_max_left _ _)
  · unfold norm
    have hs : ∑ k, (r k : EReal) * (r k : EReal) = ((∑ k, r k * r k : ℝ) : EReal) := by
      rw [coe_sum]; exact Finset.sum_congr rfl fun k _ => (EReal.coe_mul _ _).symm
    rw [hs]
    show max (if (∑ k, r k * r k) < 0 then ⊥ else ((Real.sqrt (∑ k, r k * r k) : ℝ) : EReal)) _ = _
    rw [if_neg (not_lt.mpr h0)]
    exact (EReal.coe_strictMono.monotone.map_max).symm

/-- Everything that the two programs do with a row and its divisor, in terms of the real entries `unit x`: dividing by it or
multiplying with its reciprocal, doubled or not; the row's sum of squares and its sum, scaled; and no more than unit length. -/
theorem unit_facts (x : Fin n → EReal) :
    (∀ k, Ideal.div (x k) (norm x) = (unit x k : EReal))
    ∧ (∀ k, x k * Ideal.div 1 (norm x) = (unit x k : EReal))
    ∧ (∀ k, x k * (((2 : ℝ) : EReal) * Ideal.div 1 (norm x)) = ((2 * unit x k : ℝ) : EReal))
    ∧ (∑ k, x k * x k) * Ideal.div 1 (norm x) * Ideal.div 1 (norm x) = ((∑ k, unit x k * unit x k : ℝ) : EReal)
    ∧ (∀ c : ℝ, (c : EReal) * (∑ k, x k) * Ideal.div 1 (norm x) = ((c * ∑ k, unit x k : ℝ) : EReal))
    ∧ ∑ k, unit x k * unit x k ≤ 1 := by
  by_cases h : ∃ i, x i = ⊤ ∨ x i = ⊥
  · obtain ⟨i, hi⟩ := h
    have hn := norm_of_infinite x i hi
    have hu : ∀ k, unit x k = 0 := fun k => by unfold unit; rw [hn, div_top]; rfl
    simp [hu, hn, div_top]
  · have hr : ∀ k, ∃ r : ℝ, x k = (r : EReal) := fun k => by
      refine ⟨(x k).toReal, (EReal.coe_toReal (fun e => h ⟨k, .inl e⟩) (fun e => h ⟨k, .inr e⟩)).symm⟩
    choose r hr using hr
    obtain rfl : x = fun k => (r k : EReal) := funext hr
    obtain ⟨d, hd, hle, hn⟩ := norm_of_real r
    have hq : ∀ k, Ideal.div (r k : EReal) (d : EReal) = ((r k * (1 / d) : ℝ) : EReal) := fun k => by
      rw [Ideal.div_coe hd.ne', EReal.coe_mul]
    have h1 : Ideal.div 1 (d : EReal) = ((1 / d : ℝ) : EReal) := by rw [Ideal.div_coe hd.ne', one_mul]
    have hu : ∀ k, unit (fun k => (r k : EReal)) k = r k * (1 / d) := fun k => by
      unfold unit; rw [hn, hq]; rfl
    have hs : ∑ k, (r k : EReal) * (r k : EReal) = ((∑ k, r k * r k : ℝ) : EReal) := by
      rw [coe_sum]; exact Finset.sum_congr rfl fun k _ => (EReal.coe_mul _ _).symm
    have hsq : ∑ k, r k * (1 / d) * (r k * (1 / d)) = (∑ k, r k * r k) * (1 / d) * (1 / d) := by
      rw [Finset.sum_mul, Finset.sum_mul]; exact Finset.sum_congr rfl fun k _ => by ring
    simp only [hu, hn, hq, h1]
    refine ⟨fun _ => trivial, fun k => (EReal.coe_mul _ _).symm, fun k => ?_, ?_, fun c => ?_, ?_⟩
    · rw [← EReal.coe_mul, ← EReal.coe_mul]; congr 1; ring
    · rw [hs, ← EReal.coe_mul, ← EReal.coe_mul, hsq]
    · rw [← coe_sum, ← EReal.coe_mul, ← EReal.coe_mul, Finset.mul_sum, Finset.sum_mul, Finset.mul_sum]
      congr 1; exact Finset.sum_congr rfl fun k _ => by ring
    · rw [hsq, mul_assoc, ← mul_div_mul_comm, one_mul, mul_one_div]
      exact (div_le_one (mul_pos hd hd)).mpr hle

/-- The rows of half `h` of an array of pairs of rows, each over its norm. -/
def units (X : (⟨3, ![1024, 2, 2048]⟩ : Shape).Idx → EReal) (h : Fin 2) (j : Fin 1024) : Fin 2048 → ℝ :=
  unit fun k => X (ix3 (n0 := 1024) (n1 := 2) (n2 := 2048) j h k)

/-- Such a row is of at most unit length. -/
theorem units_le_one (X : (⟨3, ![1024, 2, 2048]⟩ : Shape).Idx → EReal) (h : Fin 2) (j : Fin 1024) :
    ∑ k, units X h j k * units X h j k ≤ 1 :=
  (unit_facts _).2.2.2.2.2

/-- A diagonal's mask chooses by whether row and column number agree. -/
theorem select_diag (hn : n ≤ 2 ^ 32) (r q : Fin n) (a b : EReal) :
    Scalar.select (IntOp.cmpi .eq (BitVec.ofNat 32 r.val) (BitVec.ofNat 32 q.val)) a b = if r = q then a else b := by
  by_cases h : r = q
  · subst h; simp [Scalar.select, IntOp.cmpi]
  · have hne : BitVec.ofNat 32 r.val ≠ BitVec.ofNat 32 q.val := fun e => h (Fin.ext (by
      have e := congrArg BitVec.toNat e
      rwa [BitVec.toNat_ofNat, BitVec.toNat_ofNat, Nat.mod_eq_of_lt (r.isLt.trans_le hn), Nat.mod_eq_of_lt (q.isLt.trans_le hn)] at e))
    rw [if_neg h]
    simp only [Scalar.select, IntOp.cmpi, beq_eq_false_iff_ne.mpr hne]
    simp

/-! ## Costs and distances -/

/-- What the squared distance of `p` from the anchor `a` is, up to a term of the anchor's alone. -/
def cost (a p : Fin n → ℝ) : ℝ := ∑ k, p k * p k - 2 * shiftLit * ∑ k, p k - ∑ k, 2 * p k * a k

/-- The squared distance of two rows, every difference shifted. -/
def sqDist (a p : Fin n → ℝ) : ℝ := ∑ k, (a k - p k + shiftLit) * (a k - p k + shiftLit)

/-- The anchor's own part of a squared distance. -/
def own (a : Fin n → ℝ) : ℝ := ∑ k, a k * a k + 2 * shiftLit * ∑ k, a k + n * (shiftLit * shiftLit)

/-- A squared distance is the anchor's own part and the cost. -/
theorem sqDist_eq (a p : Fin n → ℝ) : sqDist a p = own a + cost a p := by
  have hn : (n : ℝ) * (shiftLit * shiftLit) = ∑ _k : Fin n, shiftLit * shiftLit := by simp
  unfold sqDist own cost
  rw [hn, Finset.mul_sum, Finset.mul_sum]
  simp only [← Finset.sum_add_distrib, ← Finset.sum_sub_distrib]
  exact Finset.sum_congr rfl fun k _ => by ring

/-- A squared distance is not negative. -/
theorem sqDist_nonneg (a p : Fin n → ℝ) : 0 ≤ sqDist a p := Finset.sum_nonneg fun _ _ => mul_self_nonneg _

/-- The entries of a row whose square sum is at most one are at most one in size. -/
theorem abs_le_one_of_unit (u : Fin n → ℝ) (h : ∑ k, u k * u k ≤ 1) (k : Fin n) : |u k| ≤ 1 := by
  have h1 : u k * u k ≤ ∑ k, u k * u k :=
    Finset.single_le_sum (f := fun k => u k * u k) (fun k _ => mul_self_nonneg (u k)) (Finset.mem_univ k)
  exact abs_le_one_iff_mul_self_le_one.mpr (h1.trans h)

/-- Costs between rows of at most unit length are bounded. -/
theorem abs_cost_le (a p : Fin n → ℝ) (ha : ∑ k, a k * a k ≤ 1) (hp : ∑ k, p k * p k ≤ 1) : |cost a p| ≤ 1 + n + 2 * n := by
  have hs : (0 : ℝ) ≤ shiftLit ∧ shiftLit ≤ 1 / 2 := by unfold shiftLit; norm_num
  have hn : (0 : ℝ) ≤ n := Nat.cast_nonneg n
  have h0 : 0 ≤ ∑ k, p k * p k := Finset.sum_nonneg fun k _ => mul_self_nonneg _
  have h1 : |∑ k, p k| ≤ n := (Finset.abs_sum_le_sum_abs _ _).trans
    ((Finset.sum_le_sum fun k _ => abs_le_one_of_unit p hp k).trans (le_of_eq (by simp)))
  have h2 : |∑ k, 2 * p k * a k| ≤ 2 * n := (Finset.abs_sum_le_sum_abs _ _).trans
    ((Finset.sum_le_sum (g := fun _ => (2 : ℝ)) fun k _ => by
      rw [abs_mul, abs_mul, abs_two]
      have := mul_le_one₀ (abs_le_one_of_unit p hp k) (abs_nonneg _) (abs_le_one_of_unit a ha k)
      linarith).trans (le_of_eq (by simp [mul_comm])))
  have h3 : |2 * shiftLit * ∑ k, p k| ≤ n := by
    rw [abs_mul, abs_of_nonneg (by linarith [hs.1] : (0 : ℝ) ≤ 2 * shiftLit)]
    calc 2 * shiftLit * |∑ k, p k| ≤ 1 * n := mul_le_mul (by linarith [hs.2]) h1 (abs_nonneg _) (by norm_num)
      _ = n := one_mul _
  have h2' := abs_le.mp h2
  have h3' := abs_le.mp h3
  unfold cost
  exact abs_le.mpr ⟨by linarith [h2'.1, h2'.2, h3'.1, h3'.2], by linarith [h2'.1, h2'.2, h3'.1, h3'.2]⟩

/-- The filler is above every cost's bound. -/
theorem big_gt : (20000 : ℝ) ≤ bigLit := by unfold bigLit; norm_num

/-- The part of a negated similarity that the anchor alone decides, with the constant `w` that every similarity holds. -/
def anchorPart (a : Fin n → ℝ) (w : ℝ) : ℝ := ∑ k, a k * a k + 2 * shiftLit * ∑ k, a k + w

/-- The reference's similarity of two rows of real numbers: the anchor's part and the cost, negated. -/
theorem similarity_eq (a p : Fin n → ℝ) (w : ℝ) :
    -(∑ k, (a k : EReal) * (a k : EReal) + ∑ k, (p k : EReal) * (p k : EReal) - ((2 : ℝ) : EReal) * ∑ k, (a k : EReal) * (p k : EReal)
        + ((2 * shiftLit : ℝ) : EReal) * (∑ k, (a k : EReal) - ∑ k, (p k : EReal)) + (w : EReal))
      = ((-(anchorPart a w + cost a p) : ℝ) : EReal) := by
  simp only [← EReal.coe_mul, ← coe_sum, ← EReal.coe_add, ← EReal.coe_sub, ← EReal.coe_neg]
  have h : ∑ k, 2 * p k * a k = 2 * ∑ k, a k * p k := by
    rw [Finset.mul_sum]; exact Finset.sum_congr rfl fun k _ => by ring
  unfold anchorPart cost
  rw [h]
  exact congrArg Real.toEReal (by ring)

/-- The reference's distance of two rows of real numbers. -/
theorem distance_eq (a p : Fin n → ℝ) :
    Ideal.sqrt (∑ k, ((a k : EReal) - (p k : EReal) + (shiftLit : EReal)) * ((a k : EReal) - (p k : EReal) + (shiftLit : EReal)))
      = ((Real.sqrt (sqDist a p) : ℝ) : EReal) := by
  have h : ∑ k, ((a k : EReal) - (p k : EReal) + (shiftLit : EReal)) * ((a k : EReal) - (p k : EReal) + (shiftLit : EReal))
      = ((sqDist a p : ℝ) : EReal) := by
    unfold sqDist
    simp only [coe_sum, EReal.coe_mul, EReal.coe_add, EReal.coe_sub]
  rw [h]
  show (if sqDist a p < 0 then ⊥ else ((Real.sqrt (sqDist a p) : ℝ) : EReal)) = _
  rw [if_neg (not_lt.mpr (sqDist_nonneg a p))]

/-! ## The loss -/

/-- The least cost among the rows other than the `i`-th. -/
def nearest (H : Fin 1024 → ℝ) (i : Fin 1024) : ℝ :=
  (Finset.univ.erase i).inf' ⟨i + 1, Finset.mem_erase.mpr ⟨by simp, Finset.mem_univ _⟩⟩ H

/-- The nearest other value is below every other one. -/
theorem nearest_le (H : Fin 1024 → ℝ) {i j : Fin 1024} (h : j ≠ i) : nearest H i ≤ H j :=
  Finset.inf'_le _ (Finset.mem_erase.mpr ⟨h, Finset.mem_univ _⟩)

/-- The nearest other value is taken at another index. -/
theorem exists_nearest (H : Fin 1024 → ℝ) (i : Fin 1024) : ∃ j, j ≠ i ∧ nearest H i = H j := by
  obtain ⟨j, hj, e⟩ := Finset.exists_mem_eq_inf' (s := Finset.univ.erase i)
    ⟨i + 1, Finset.mem_erase.mpr ⟨by simp, Finset.mem_univ _⟩⟩ H
  exact ⟨j, (Finset.mem_erase.mp hj).1, e⟩

/-- An index, other than the own one, that no other index undercuts gives the nearest value. -/
theorem nearest_eq (H : Fin 1024 → ℝ) {i j : Fin 1024} (h : j ≠ i) (hm : ∀ k, k ≠ i → H j ≤ H k) : nearest H i = H j :=
  le_antisymm (nearest_le H h) (by obtain ⟨k, hk, e⟩ := exists_nearest H i; rw [e]; exact hm k hk)

/-- One anchor's share of the loss, before the mean: the hinge of its own positive against the nearest other. -/
def hinge (A P : Fin 1024 → Fin 2048 → ℝ) (i : Fin 1024) : ℝ :=
  max (cost (A i) (P i) - nearest (fun j => cost (A i) (P j)) i + marginLit) 0

/-- The loss of rows of anchors and positives: the mean hinge. -/
def lossOf (A P : Fin 1024 → Fin 2048 → ℝ) : ℝ := (∑ i, hinge A P i) * (1 / 1024)

/-- The reference's hinge: of the squares of two distances from the anchor, whose own part cancels. -/
theorem hinge_eq (A P : Fin 1024 → Fin 2048 → ℝ) {i j : Fin 1024} (h : j ≠ i)
    (hm : ∀ k, k ≠ i → cost (A i) (P j) ≤ cost (A i) (P k)) :
    max (((Real.sqrt (sqDist (A i) (P i)) : ℝ) : EReal) * ((Real.sqrt (sqDist (A i) (P i)) : ℝ) : EReal)
        - ((Real.sqrt (sqDist (A i) (P j)) : ℝ) : EReal) * ((Real.sqrt (sqDist (A i) (P j)) : ℝ) : EReal) + (marginLit : EReal)) 0
      = (hinge A P i : EReal) := by
  rw [← EReal.coe_mul, ← EReal.coe_mul, Real.mul_self_sqrt (sqDist_nonneg _ _), Real.mul_self_sqrt (sqDist_nonneg _ _),
    ← EReal.coe_sub, ← EReal.coe_add, ← EReal.coe_zero, ← EReal.coe_strictMono.monotone.map_max]
  unfold hinge
  rw [nearest_eq (fun j => cost (A i) (P j)) h hm, sqDist_eq, sqDist_eq, add_sub_add_left_eq_sub]

end Cert.Triplet

end
-- ==== Proof.Blocks.lean ====
module

public import proofs.«01_k».proof.Proof.Contents
public import proofs.«01_k».proof.Proof.Math
public import Idealize.ShloMosaic.Lib.Pointwise

/-! What the kernel's vector expressions are over the extended reals, read at an index. -/

@[expose] public section

set_option maxRecDepth 16384

noncomputable section

namespace Cert.KernelIdeal.Hand

open Cert.KernelIdeal.Gen Cert.Triplet
open Idealize.ShloMosaic Idealize.ShloMosaic.TcCoe

/-- Row `r` of a block. -/
abbrev blockRow (v : Vec Ideal S1x256x2048 .f32) (r : Fin 256) : Fin 2048 → EReal :=
  fun k => v (ix3 (n0 := 1) (n1 := 256) (n2 := 2048) 0 r k)

/-- A stored row of positives is twice the row over its norm. -/
theorem pay5_at (v : Vec Ideal S1x256x2048 .f32) (r : Fin 256) (l : Fin 2048) :
    k0_pay5 k0_pay17 v (ix2 (n0 := 256) (n1 := 2048) r l) = ((2 * unit (blockRow v r) l : ℝ) : EReal) := by
  pointwise [k0_pay5, k0_pay4, k0_pay3, k0_pay2, k0_pay17]
  rw [word_two, word_floor]
  exact (unit_facts (blockRow v r)).2.2.1 l

/-- A stored entry of the column is the positive's own term of the cost. -/
theorem pay6_at (v : Vec Ideal S1x256x2048 .f32) (r : Fin 256) :
    k0_pay6 k0_pay17 v (ix2 (n0 := 256) (n1 := 1) r 0)
      = ((∑ k, unit (blockRow v r) k * unit (blockRow v r) k - 2 * shiftLit * ∑ k, unit (blockRow v r) k : ℝ) : EReal) := by
  pointwise [k0_pay6, k0_pay4, k0_pay3, k0_pay2, k0_pay17]
  rw [word_twice_shift, word_floor, EReal.coe_sub]
  exact congrArg₂ (· - ·) (unit_facts (blockRow v r)).2.2.2.1 ((unit_facts (blockRow v r)).2.2.2.2.1 _)

/-- The product of the doubled positives with the anchors over their norms. -/
theorem pay23_at (v : Vec Ideal S1x256x2048 .f32) (pb : Vec Ideal S1024x2048 .bf16) (p : Fin 2048 → ℝ) (j : Fin 1024) (q : Fin 256)
    (hp : ∀ k, pb (ix2 (n0 := 1024) (n1 := 2048) j k) = ((2 * p k : ℝ) : EReal)) :
    k0_pay23 v pb (ix2 (n0 := 1024) (n1 := 256) j q) = ((∑ k, 2 * p k * unit (blockRow v q) k : ℝ) : EReal) := by
  pointwise [k0_pay23, k0_pay17]
  rw [word_floor, coe_sum]
  refine Finset.sum_congr rfl fun k _ => ?_
  rw [hp, EReal.coe_mul]
  exact congrArg _ ((unit_facts (blockRow v q)).2.1 k)

/-! ## Flags -/

/-- The row `256 c + r` of the four blocks. -/
abbrev row (c : Fin 4) (r : Fin 256) : Fin 1024 := ⟨256 * c.val + r.val, by omega⟩

/-- A comparison of the point's index with a block's number, as a float. -/
def flag (k c : Fin 4) : EReal := if k = c then 1 else 0

/-- The kernel's comparison of its point index with a block's number, widened and made a float, is the flag. -/
theorem flag_word (k c : Fin 4) (w : BitVec 32) (hw : w = BitVec.ofNat 32 c.val) :
    (((Scalar.extui (Scalar.cmpi .eq (BitVec.ofNat 32 k.val) w) : BitVec 32).toInt : ℝ) : EReal) = flag k c := by
  subst hw
  by_cases h : k = c
  · subst h; simp [flag, Scalar.extui, Scalar.cmpi, IntOp.cmpi]
  · have hne : BitVec.ofNat 32 k.val ≠ BitVec.ofNat 32 c.val := fun e => h (Fin.ext (by
      have := congrArg BitVec.toNat e; simp at this; omega))
    simp [flag, Scalar.extui, Scalar.cmpi, IntOp.cmpi, h, beq_eq_false_iff_ne.mpr hne]

/-! ## The column minima and the diagonal -/

/-- The minimum of one block of costs down column `q`, the diagonal lifted by the filler in the point's own block. -/
def blockMin (H : Fin 1024 → ℝ) (k : Fin 4) (q : Fin 256) (c : Fin 4) : EReal :=
  Finset.univ.fold min ⊤ fun r : Fin 256 => (H (row c r) : EReal) + if r = q then (bigLit : EReal) * flag k c else 0

/-- The diagonal entry of one block of costs, kept in the point's own block alone. -/
def blockDiag (H : Fin 1024 → ℝ) (k : Fin 4) (q : Fin 256) (c : Fin 4) : EReal :=
  (∑ r : Fin 256, if r = q then (H (row c r) : EReal) else 0) * flag k c

/-- One row of one block: away from the anchor's own row the cost itself, there something larger than every cost. -/
theorem block_entry (H : Fin 1024 → ℝ) (k c : Fin 4) (q r : Fin 256) :
    (H (row c r) : EReal) + (if r = q then (bigLit : EReal) * flag k c else 0)
      = ((if row c r = row k q then H (row c r) + bigLit else H (row c r) : ℝ) : EReal) := by
  have hrow : row c r = row k q ↔ c = k ∧ r = q := by
    constructor
    · intro e
      have := congrArg Fin.val e
      simp only [row] at this
      exact ⟨Fin.ext (by omega), Fin.ext (by omega)⟩
    · rintro ⟨rfl, rfl⟩; rfl
  by_cases hr : r = q
  · by_cases hc : k = c
    · rw [if_pos hr, if_pos (hrow.mpr ⟨hc.symm, hr⟩), flag, if_pos hc, mul_one, EReal.coe_add]
    · rw [if_pos hr, if_neg fun h => hc (hrow.mp h).1.symm, flag, if_neg hc, mul_zero, add_zero]
  · rw [if_neg hr, if_neg fun h => hr (hrow.mp h).2, add_zero]

/-- The running minimum over the four blocks is the nearest other positive's cost. -/
theorem min_blocks (H : Fin 1024 → ℝ) (hb : ∀ j, |H j| ≤ 10000) (k : Fin 4) (q : Fin 256) :
    min (min (min (min (bigLit : EReal) (blockMin H k q 0)) (blockMin H k q 1)) (blockMin H k q 2)) (blockMin H k q 3)
      = (nearest H (row k q) : EReal) := by
  obtain ⟨j, hj, e⟩ := exists_nearest H (row k q)
  have hle : ∀ c, (nearest H (row k q) : EReal) ≤ blockMin H k q c := fun c => by
    refine Finset.le_fold_min _ |>.mpr ⟨le_top, fun r _ => ?_⟩
    rw [block_entry, EReal.coe_le_coe_iff]
    by_cases h : row c r = row k q
    · rw [if_pos h, e]
      have h1 := (abs_le.mp (hb j)).2
      have h2 := (abs_le.mp (hb (row c r))).1
      linarith [big_gt]
    · rw [if_neg h]; exact nearest_le H h
  have hbig : (nearest H (row k q) : EReal) ≤ (bigLit : EReal) := by
    rw [EReal.coe_le_coe_iff, e]; linarith [(abs_le.mp (hb j)).2, big_gt]
  refine le_antisymm ?_ (le_min (le_min (le_min (le_min hbig (hle 0)) (hle 1)) (hle 2)) (hle 3))
  have hfound : ∀ c r, row c r = j → blockMin H k q c ≤ (nearest H (row k q) : EReal) := fun c r hr => by
    refine (Finset.fold_min_le _).mpr (Or.inr ⟨r, Finset.mem_univ _, ?_⟩)
    rw [block_entry, hr, if_neg hj, e]
  have hdiv : row ⟨j.val / 256, by omega⟩ ⟨j.val % 256, by omega⟩ = j := Fin.ext (by simp only [row]; omega)
  have h := hfound _ _ hdiv
  generalize (⟨j.val / 256, by omega⟩ : Fin 4) = c at h
  match c, h with
  | ⟨0, _⟩, h => exact (min_le_left _ _).trans ((min_le_left _ _).trans ((min_le_left _ _).trans ((min_le_right _ _).trans h)))
  | ⟨1, _⟩, h => exact (min_le_left _ _).trans ((min_le_left _ _).trans ((min_le_right _ _).trans h))
  | ⟨2, _⟩, h => exact (min_le_left _ _).trans ((min_le_right _ _).trans h)
  | ⟨3, _⟩, h => exact (min_le_right _ _).trans h

/-- The sum of the four blocks' diagonals is the anchor's own positive's cost. -/
theorem sum_diags (H : Fin 1024 → ℝ) (k : Fin 4) (q : Fin 256) :
    blockDiag H k q 0 + blockDiag H k q 1 + blockDiag H k q 2 + blockDiag H k q 3 = (H (row k q) : EReal) := by
  have h : ∀ c, blockDiag H k q c = if k = c then (H (row c q) : EReal) else 0 := fun c => by
    unfold blockDiag flag
    rw [Finset.sum_ite_eq' Finset.univ q fun r => (H (row c r) : EReal), if_pos (Finset.mem_univ _)]
    split <;> simp
  rw [h, h, h, h]
  fin_cases k <;> simp

/-! ## A step -/

/-- What a grid point adds: the mean's share of its block's hinges. -/
theorem step_at (k : Fin 4) (xa : Vec Ideal S1x256x2048 .f32) (pb : Vec Ideal S1024x2048 .bf16) (cp : Vec Ideal S1024x1 .f32)
    (o : Vec Ideal S1x1 .f32) (H : Fin 256 → Fin 1024 → ℝ) (hb : ∀ q j, |H q j| ≤ 10000)
    (hH : ∀ q j, cp (ix2 (n0 := 1024) (n1 := 1) j 0) - k0_pay23 xa pb (ix2 (n0 := 1024) (n1 := 256) j q) = (H q j : EReal)) :
    step (BitVec.ofNat 32 k.val) xa pb cp o (ix2 (n0 := 1) (n1 := 1) 0 0)
      = o (ix2 (n0 := 1) (n1 := 1) 0 0)
        + (((∑ q, max (H q (row k q) - nearest (H q) (row k q) + marginLit) 0) * (1 / 1024) : ℝ) : EReal) := by
  have hc : ∀ (c : Fin 4) (q r : Fin 256) (i : ℕ) (hi : i = 256 * c.val + r.val) (h : i < 1024), cp (ix2 (n0 := 1024) (n1 := 1) ⟨i, h⟩ 0)
      - k0_pay23 xa pb (ix2 (n0 := 1024) (n1 := 256) ⟨i, h⟩ q) = (H q (row c r) : EReal) := fun c q r i hi h => by
    subst hi; exact hH q (row c r)
  have h0 := fun (q r : Fin 256) (h : r.val < 1024) => hc 0 q r r.val (by simp) h
  have h1 := fun (q r : Fin 256) (h : 256 + r.val < 1024) => hc 1 q r (256 + r.val) (by simp) h
  have h2 := fun (q r : Fin 256) (h : 512 + r.val < 1024) => hc 2 q r (512 + r.val) (by simp) h
  have h3 := fun (q r : Fin 256) (h : 768 + r.val < 1024) => hc 3 q r (768 + r.val) (by simp) h
  pointwise [step, k0_pay37, k0_pay36, k0_pay35, k0_pay34, k0_pay33, k0_pay32, k0_pay31, k0_pay30, k0_pay29, k0_pay28, k0_pay27, k0_pay26, k0_pay25, k0_pay24, chunk0, chunk1, chunk2, chunk3]
  simp only [flag_word k 0 0#32 rfl, flag_word k 1 1#32 rfl, flag_word k 2 2#32 rfl, flag_word k 3 3#32 rfl, select_diag (n := 256) (by norm_num), h0, h1, h2, h3,
    word_big, word_margin, word_share, word_top]
  have key : ∀ q : Fin 256, max (blockDiag (H q) k q 0 + blockDiag (H q) k q 1 + blockDiag (H q) k q 2 + blockDiag (H q) k q 3
      - min (min (min (min (bigLit : EReal) (blockMin (H q) k q 0)) (blockMin (H q) k q 1)) (blockMin (H q) k q 2)) (blockMin (H q) k q 3)
      + (marginLit : EReal)) 0 = ((max (H q (row k q) - nearest (H q) (row k q) + marginLit) 0 : ℝ) : EReal) := fun q => by
    rw [min_blocks _ (hb q), sum_diags, ← EReal.coe_sub, ← EReal.coe_add, ← EReal.coe_zero]
    exact (EReal.coe_strictMono.monotone.map_max).symm
  rw [EReal.coe_mul, coe_sum]
  exact congrArg (fun z => o (ix2 (n0 := 1) (n1 := 1) 0 0) + z * ((1 / 1024 : ℝ) : EReal)) (Finset.sum_congr rfl fun q _ => key q)

end Cert.KernelIdeal.Hand

end
-- ==== Proof.KernelSum.lean ====
module

public import proofs.«01_k».proof.Proof.KernelValue
public import proofs.«01_k».proof.Proof.Blocks
public import Idealize.ShloMosaic.Lib.Pipeline.Value

/-! The idealized kernel's result: the mean hinge of the rows over their norms. -/

@[expose] public section

set_option maxRecDepth 16384

noncomputable section

namespace Cert.KernelIdeal.Hand

open Cert.KernelIdeal.Gen Cert.Triplet
open Idealize.ShloMosaic Idealize.ShloMosaic.TcCoe Idealize.SL.Sem

/-- A row of a block, over its norm, is the array's row. -/
theorem unit_slot (X : S1024x2x2048.Idx → EReal) (h : Fin 2) (c : Fin 4) (r : Fin 256) :
    unit (blockRow (slot (F := Ideal) X h c) r) = units X h (row c r) := rfl

/-- A block of rows sits at its rows of the scratch. -/
theorem emb_block {w : ℕ} (c : Fin 4) (off : Fin 2 → ℕ) (ho : off = ![256 * c.val, 0])
    (inb : ∀ a, off a + (⟨2, ![256, w]⟩ : Shape).size a ≤ (⟨2, ![1024, w]⟩ : Shape).size a) (x : (⟨2, ![256, w]⟩ : Shape).Idx) :
    (Rect.unit (s := ⟨2, ![1024, w]⟩) off (⟨2, ![256, w]⟩ : Shape).size inb).emb x = ix2 (n0 := 1024) (n1 := w) (row c (x 0)) (x 1) := by
  subst ho
  funext a
  match a with
  | ⟨0, _⟩ => exact Fin.ext (show 256 * c.val + 1 * (x 0).val = 256 * c.val + (x 0).val by omega)
  | ⟨1, _⟩ => exact Fin.ext (show 0 + 1 * (x 1).val = (x 1).val by omega)

/-- The scratch of positives: row `j` is twice the `j`-th positive over its norm. -/
theorem posRows_at (X : S1024x2x2048.Idx → EReal) (j : Fin 1024) (k : Fin 2048) :
    posRows (F := Ideal) X (ix2 (n0 := 1024) (n1 := 2048) j k) = ((2 * units X 1 j k : ℝ) : EReal) := by
  have hp : ∀ (c : Fin 4) (off : Fin 2 → ℕ) (_ : off = ![256 * c.val, 0]) (inb : ∀ a, off a + S256x2048.size a ≤ S1024x2048.size a)
      (x : S256x2048.Idx), k0_pay5 (F := Ideal) k0_pay17 (slot X 1 c) x
        = (fun y : S1024x2048.Idx => ((2 * units X 1 (y 0) (y 1) : ℝ) : EReal))
            ((Rect.unit (s := S1024x2048) off S256x2048.size inb).emb x) := fun c off ho inb x => by
    rw [emb_block c off ho inb x, eq_ix2 (n0 := 256) (n1 := 2048) x]; exact pay5_at _ _ _
  refine View.canon_apply_of_pieces (Val := Elt Ideal) (S := S1024x2048) (e := .bf16)
    (fun y => ((2 * units X 1 (y 0) (y 1) : ℝ) : EReal)) (pieces4 (F := Ideal) X) ?_ _ (pieces4_cover (F := Ideal) X _)
  intro p hm
  simp only [pieces4, List.mem_cons, List.not_mem_nil, or_false] at hm
  rcases hm with rfl | rfl | rfl | rfl
  · exact hp 3 _ rfl inb_S1024x2048_S256x2048_768_0
  · exact hp 2 _ rfl inb_S1024x2048_S256x2048_512_0
  · exact hp 1 _ rfl inb_S1024x2048_S256x2048_256_0
  · exact hp 0 _ rfl inb_S1024x2048_S256x2048_0_0

/-- The column: entry `j` is the `j`-th positive's own term of the cost. -/
theorem posCol_at (X : S1024x2x2048.Idx → EReal) (j : Fin 1024) :
    posCol (F := Ideal) X (ix2 (n0 := 1024) (n1 := 1) j 0)
      = ((∑ k, units X 1 j k * units X 1 j k - 2 * shiftLit * ∑ k, units X 1 j k : ℝ) : EReal) := by
  have hp : ∀ (c : Fin 4) (off : Fin 2 → ℕ) (_ : off = ![256 * c.val, 0]) (inb : ∀ a, off a + S256x1.size a ≤ S1024x1.size a)
      (x : S256x1.Idx), k0_pay6 (F := Ideal) k0_pay17 (slot X 1 c) x
        = (fun y : S1024x1.Idx => ((∑ k, units X 1 (y 0) k * units X 1 (y 0) k - 2 * shiftLit * ∑ k, units X 1 (y 0) k : ℝ) : EReal))
            ((Rect.unit (s := S1024x1) off S256x1.size inb).emb x) := fun c off ho inb x => by
    rw [emb_block c off ho inb x, eq_ix2 (n0 := 256) (n1 := 1) x, Subsingleton.elim (α := Fin 1) (x 1) 0]; exact pay6_at _ _
  refine View.canon_apply_of_pieces (Val := Elt Ideal) (S := S1024x1) (e := .f32)
    (fun y => ((∑ k, units X 1 (y 0) k * units X 1 (y 0) k - 2 * shiftLit * ∑ k, units X 1 (y 0) k : ℝ) : EReal))
    (pieces5 (F := Ideal) X) ?_ _ (pieces5_cover (F := Ideal) X _)
  intro p hm
  simp only [pieces5, List.mem_cons, List.not_mem_nil, or_false] at hm
  rcases hm with rfl | rfl | rfl | rfl
  · exact hp 3 _ rfl inb_S1024x1_S256x1_768_0
  · exact hp 2 _ rfl inb_S1024x1_S256x1_512_0
  · exact hp 1 _ rfl inb_S1024x1_S256x1_256_0
  · exact hp 0 _ rfl inb_S1024x1_S256x1_0_0

/-- What point `k` adds: its block's hinges, each with the mean's factor. -/
theorem step_units (X Y : S1024x2x2048.Idx → EReal) (k : Fin 4) (o : Vec Ideal S1x1 .f32) :
    step (BitVec.ofNat 32 k.val) (slot X 0 k) (posRows Y) (posCol Y) o (ix2 (n0 := 1) (n1 := 1) 0 0)
      = o (ix2 (n0 := 1) (n1 := 1) 0 0)
        + (((∑ q, hinge (units X 0) (units Y 1) (row k q)) * (1 / 1024) : ℝ) : EReal) := by
  refine step_at k _ _ _ o (fun q j => cost (units X 0 (row k q)) (units Y 1 j)) (fun q j => ?_) fun q j => ?_
  · exact (abs_cost_le _ _ (units_le_one X 0 _) (units_le_one Y 1 _)).trans (by norm_num)
  · rw [posCol_at, pay23_at _ _ (units Y 1 j) j q (fun k => posRows_at Y j k), ← EReal.coe_sub]; rfl

variable (m : (ℓ : Loc nD τ sig) → Buf (Elt Ideal) ℓ)

/-- The point's index word. -/
theorem word_eq (k : Fin 4) (hn : k.val < cfg0.N) : word ⟨k.val, hn⟩ = BitVec.ofNat 32 k.val := by
  have e0 : (grid0.coords ⟨k.val, hn⟩ 0).val = k.val / 1 % 4 := Pipeline.Grid.coords_val ⟨k.val, hn⟩ 0 (by decide) rfl
  unfold word
  rw [e0, Nat.div_one, Nat.mod_eq_of_lt k.isLt]

/-- Block `k` of the mean hinge. -/
def share (A P : Fin 1024 → Fin 2048 → ℝ) (k : Fin 4) : ℝ := (∑ q, hinge A P (row k q)) * (1 / 1024)

/-- The four blocks together are the mean hinge. -/
theorem share_sum (A P : Fin 1024 → Fin 2048 → ℝ) : share A P 0 + share A P 1 + share A P 2 + share A P 3 = lossOf A P := by
  have h : ∑ i, hinge A P i = ∑ c : Fin 4, ∑ q : Fin 256, hinge A P (row c q) := by
    rw [← Fintype.sum_prod_type' (f := fun (c : Fin 4) (q : Fin 256) => hinge A P (row c q))]
    refine (Fintype.sum_equiv (finProdFinEquiv (m := 4) (n := 256)) _ _ fun x => congrArg (hinge A P) (Fin.ext ?_)).symm
    simp only [row, finProdFinEquiv_apply_val]; omega
  unfold share lossOf
  rw [h, Fin.sum_univ_four]
  ring

/-- At the first point the sum is the first block's share. -/
theorem sumAt_zero (c : Dev nD) (hn : 0 < cfg0.N) :
    sumAt m c 0 hn (ix2 (n0 := 1) (n1 := 1) 0 0)
      = ((share (units (V m c main_arg0) 0) (units (V m c main_arg1) 1) 0 : ℝ) : EReal) := by
  have hz : (k0_pay1 (F := Ideal)) (ix2 (n0 := 1) (n1 := 1) 0 0) = 0 := by pointwise [k0_pay1]
  have h := step_units (V m c main_arg0) (V m c main_arg1) 0 (k0_pay1 (F := Ideal))
  rw [hz, zero_add, ← word_eq 0 hn] at h
  exact h

/-- Each later point adds its block's share. -/
theorem sumAt_succ (c : Dev nD) (n : ℕ) (hn : n + 1 < cfg0.N) (k : Fin 4) (hk : k.val = n + 1) (hb : Ring.bk 4 (n + 1) = k) (s : ℝ)
    (ih : sumAt m c n (Nat.lt_of_succ_lt hn) (ix2 (n0 := 1) (n1 := 1) 0 0) = (s : EReal)) :
    sumAt m c (n + 1) hn (ix2 (n0 := 1) (n1 := 1) 0 0)
      = ((s + share (units (V m c main_arg0) 0) (units (V m c main_arg1) 1) k : ℝ) : EReal) := by
  have hw : word ⟨n + 1, hn⟩ = BitVec.ofNat 32 k.val := by
    have e : (⟨n + 1, hn⟩ : Fin cfg0.N) = ⟨k.val, hk ▸ hn⟩ := Fin.ext hk.symm
    rw [e]; exact word_eq k _
  have h := step_units (V m c main_arg0) (V m c main_arg1) k (sumAt m c n (Nat.lt_of_succ_lt hn))
  rw [ih, ← hw, ← EReal.coe_add] at h
  subst hb
  exact h

/-- The result of the idealized kernel: the mean hinge of its arguments' rows over their norms. -/
theorem sumAt_last (c : Dev nD) :
    sumAt m c 3 three_lt (ix2 (n0 := 1) (n1 := 1) 0 0)
      = ((lossOf (units (V m c main_arg0) 0) (units (V m c main_arg1) 1) : ℝ) : EReal) := by
  rw [← share_sum]
  exact sumAt_succ m c 2 _ 3 rfl rfl _ (sumAt_succ m c 1 _ 2 rfl rfl _ (sumAt_succ m c 0 _ 1 rfl rfl _ (sumAt_zero m c _)))

end Cert.KernelIdeal.Hand

end
-- ==== Proof.Same.lean ====
module

public import proofs.«01_k».proof.Proof.Gen.Kernel
public import proofs.«01_k».proof.Proof.KernelValue

/-! The printed kernel and the program printed for reading at the ideal instance are the same text, operation for operation, so what is
proved of the one at every float reading holds of the other. -/

@[expose] public section

set_option maxRecDepth 16384

noncomputable section

namespace Cert.Kernel.Hand

open Idealize.ShloMosaic Idealize.ShloMosaic.TcCoe
open Idealize.SL.Sem

variable {F : FTy → Type} [FloatOps F]

/-- The two main programs are one. -/
theorem main_same : Cert.Kernel.main (F := F) = Cert.KernelIdeal.main (F := F) := rfl

/-- The two tables of bodies are one. -/
theorem table_same : Cert.Kernel.defs₀ (F := F) = Cert.KernelIdeal.defs₀ (F := F) := by
  funext pr ℓ a
  cases pr with
  | tc =>
    match ℓ, a with
    | ⟨0, _⟩, a => rfl
  | scScalar => rfl
  | scVector => rfl

/-- The two full tables, pipeline included, are one. -/
theorem defs_same : Cert.Kernel.defs (F := F) = Cert.KernelIdeal.defs (F := F) :=
  congrArg (Pipeline.defs (Cert.KernelIdeal.pcfgs (F := F))) table_same

/-- The printed kernel terminates from any memory, leaves its two arguments as they were and every counter at zero. -/
theorem frame (m : (ℓ : Loc nD τ sig) → Buf (Elt F) ℓ) (ρ : Dev nD → PrngReg) :
    θ_run Cert.Kernel.defs (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.KernelIdeal.Hand.frame m ρ

end Cert.Kernel.Hand

end
-- ==== Proof.Ref.lean ====
/-
  The run of the reference program: a straight line of host operations, cut here where the mathematics cuts it
  (the two normalisations, the pairwise distances, the masked arg-max, the gathered rows, the hinge loss).  Each
  stretch is read once as a function of the arrays it starts from, and the run's result is their composition.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The mathematics, stretch by stretch -/

/-- Row 0 of each of the 1024 pairs, as a matrix. -/
def anchorRows (X : FVec F S1024x2x2048 .f32) : FVec F S1024x2048 .f32 :=
  shapeCast S1024x2048 (extractStridedSlice S1024x1x2048 ![0, 0, 0] X slices_S1024x2x2048_S1024x1x2048_0_0_0)
    shapeCasts_S1024x1x2048_S1024x2048

/-- Row 1 of each of the 1024 pairs, as a matrix. -/
def positiveRows (X : FVec F S1024x2x2048 .f32) : FVec F S1024x2048 .f32 :=
  shapeCast S1024x2048 (extractStridedSlice S1024x1x2048 ![0, 1, 0] X slices_S1024x2x2048_S1024x1x2048_0_1_0)
    shapeCasts_S1024x1x2048_S1024x2048

/-- The sum of each row. -/
def rowSum (x : FVec F S1024x2048 .f32) : FVec F S1024 .f32 :=
  Host.reduceAdd x (constant S_ .f32 0x00000000#32) reducesTo_S1024x2048_S1024_d1 h_S_

/-- Each row over the larger of its norm and 1e-12. -/
def normalized (x : FVec F S1024x2048 .f32) : FVec F S1024x2048 .f32 :=
  Host.divf x (broadcastInDim S1024x2048 ![0, 1] bcast_S1024x1_S1024x2048_0_1
    (maximumf (Host.sqrt (broadcastInDim S1024x1 ![0] bcast_S1024_S1024x1_0 (rowSum (mulf x x))))
      (broadcastInDim S1024x1 ![] bcast_S_S1024x1 (constant S_ .f32 0x2B8CBCCC#32))))

/-- A column of 1024 entries along the rows of a square. -/
def downRows (v : FVec F S1024 .f32) : FVec F S1024x1024 .f32 :=
  broadcastInDim S1024x1024 ![0, 1] bcast_S1024x1_S1024x1024_0_1 (broadcastInDim S1024x1 ![0] bcast_S1024_S1024x1_0 v)

/-- A row of 1024 entries along the columns of a square. -/
def alongCols (v : FVec F S1024 .f32) : FVec F S1024x1024 .f32 :=
  broadcastInDim S1024x1024 ![0, 1] bcast_S1x1024_S1024x1024_0_1 (broadcastInDim S1x1024 ![1] bcast_S1024_S1x1024_1 v)

/-- One word over a square. -/
def square (w : BitVec 32) : FVec F S1024x1024 .f32 :=
  broadcastInDim S1024x1024 ![] bcast_S_S1024x1024 (constant S_ .f32 w)

/-- The negated squared distance of every anchor and every positive. -/
def similarity (a p : FVec F S1024x2048 .f32) : FVec F S1024x1024 .f32 :=
  Host.negf (addf (addf
    (subf (addf (downRows (rowSum (mulf a a))) (alongCols (rowSum (mulf p p))))
      (mulf (square 0x40000000#32) (Host.dotGeneral dot_S1024x2048_S2048x1024_S1024x1024_1_0_0_1_n_n none a
        (transpose S2048x1024 [1, 0] p transposes_S1024x2048_S2048x1024_1_0))))
    (mulf (square 0x360637BD#32) (subf (downRows (rowSum a)) (alongCols (rowSum p)))))
    (square 0x310CBCCC#32))

/-- The similarities with the diagonal at the least value. -/
def masked (s : FVec F S1024x1024 .f32) : FVec F S1024x1024 .f32 :=
  select (cmpi .eq (addi (iotaInDim S1024x1024 32 0) (broadcastInDim S1024x1024 ![] bcast_S_S1024x1024 (constantI S_ 32 0#32)))
    (iotaInDim S1024x1024 32 1)) (square 0xFF800000#32) s

/-- The column of each row's largest entry. -/
def argmaxRow (s : FVec F S1024x1024 .f32) : IVec S1024 32 := fun j =>
  (Host.argReduce reducer_argmax_f32_i32 s (iotaInDim S1024x1024 32 1) (constant S_ .f32 0xFF800000#32) (constantI S_ 32 0#32)
    reducesTo_S1024x1024_S1024_d1 h_S_ j).2

/-- An index counted from the end where it is negative. -/
def wrapped (k : IVec S1024 32) : IVec S1024 32 :=
  select (cmpi .slt k (broadcastInDim S1024 ![] bcast_S_S1024 (constantI S_ 32 0#32)))
    (addi k (broadcastInDim S1024 ![] bcast_S_S1024 (constantI S_ 32 1024#32))) k

/-- The rows of `p` at the indices `k`. -/
def fetched (p : FVec F S1024x2048 .f32) (k : IVec S1024 32) : FVec F S1024x2048 .f32 :=
  Host.gather gather_S1024x2048_S1024x1_S1024x2048_1_0_n_n_0_1_12048 p
    (broadcastInDim S1024x1 ![0] bcast_S1024_S1024x1_0 (wrapped k))

/-- The norm of each row of `a - q + 1e-6`. -/
def distance (a q : FVec F S1024x2048 .f32) : FVec F S1024 .f32 :=
  Host.sqrt (rowSum (mulf (addf (subf a q) (broadcastInDim S1024x2048 ![] bcast_S_S1024x2048 (constant S_ .f32 0x358637BD#32)))
    (addf (subf a q) (broadcastInDim S1024x2048 ![] bcast_S_S1024x2048 (constant S_ .f32 0x358637BD#32)))))

/-- The mean over the anchors of the hinge of the two squared distances. -/
def meanHinge (d e : FVec F S1024 .f32) : FVec F S_ .f32 :=
  Host.divf (Host.reduceAdd (maximumf (addf (subf (mulf d d) (mulf e e))
      (broadcastInDim S1024 ![] bcast_S_S1024 (constant S_ .f32 0x3E99999A#32)))
      (broadcastInDim S1024 ![] bcast_S_S1024 (constant S_ .f32 0x00000000#32)))
    (constant S_ .f32 0x00000000#32) reducesTo_S1024_S_d0 h_S_) (constant S_ .f32 0x44800000#32)

/-- The reference's loss of normalised anchors and positives. -/
def loss (a p : FVec F S1024x2048 .f32) : FVec F S_ .f32 :=
  meanHinge (distance a p) (distance a (fetched p (argmaxRow (masked (similarity a p)))))

/-! ## The operations -/

/-- The operations computing the anchors' normalised rows. -/
abbrev normAOps : List (HloOp τ sig (Elt F)) :=
  [ unary main_arg0 main_v0 (extractStridedSlice S1024x1x2048 ![0, 0, 0] · slices_S1024x2x2048_S1024x1x2048_0_0_0),
    reshape main_v0 main_v1 (rfl : (.f32 : EltTy) = .f32) shapeCasts_S1024x1x2048_S1024x2048,
    binary main_v1 main_v1 main_call0_v0 mulf,
    nullary main_call0_cst (constant S_ .f32 0x00000000#32),
    binary main_call0_v0 main_call0_cst main_call0_v1 (fun x v => Host.reduceAdd x v reducesTo_S1024x2048_S1024_d1 h_S_),
    unary main_call0_v1 main_call0_v2 (broadcastInDim S1024x1 ![0] bcast_S1024_S1024x1_0),
    unary main_call0_v2 main_v2 Host.sqrt,
    nullary main_cst (constant S_ .f32 0x2B8CBCCC#32),
    unary main_cst main_v3 (broadcastInDim S1024x1 ![] bcast_S_S1024x1),
    binary main_v2 main_v3 main_v4 maximumf,
    unary main_v4 main_v5 (broadcastInDim S1024x2048 ![0, 1] bcast_S1024x1_S1024x2048_0_1),
    binary main_v1 main_v5 main_v6 Host.divf ]

/-- The operations computing the positives' normalised rows. -/
abbrev normPOps : List (HloOp τ sig (Elt F)) :=
  [ unary main_arg1 main_v7 (extractStridedSlice S1024x1x2048 ![0, 1, 0] · slices_S1024x2x2048_S1024x1x2048_0_1_0),
    reshape main_v7 main_v8 (rfl : (.f32 : EltTy) = .f32) shapeCasts_S1024x1x2048_S1024x2048,
    binary main_v8 main_v8 main_call1_v0 mulf,
    nullary main_call1_cst (constant S_ .f32 0x00000000#32),
    binary main_call1_v0 main_call1_cst main_call1_v1 (fun x v => Host.reduceAdd x v reducesTo_S1024x2048_S1024_d1 h_S_),
    unary main_call1_v1 main_call1_v2 (broadcastInDim S1024x1 ![0] bcast_S1024_S1024x1_0),
    unary main_call1_v2 main_v9 Host.sqrt,
    nullary main_cst_0 (constant S_ .f32 0x2B8CBCCC#32),
    unary main_cst_0 main_v10 (broadcastInDim S1024x1 ![] bcast_S_S1024x1),
    binary main_v9 main_v10 main_v11 maximumf,
    unary main_v11 main_v12 (broadcastInDim S1024x2048 ![0, 1] bcast_S1024x1_S1024x2048_0_1),
    binary main_v8 main_v12 main_v13 Host.divf ]

/-- The operations computing the negated squared distances of every pair. -/
abbrev distOps : List (HloOp τ sig (Elt F)) :=
  [ binary main_v6 main_v6 main_v14 mulf,
    nullary main_cst_1 (constant S_ .f32 0x00000000#32),
    binary main_v14 main_cst_1 main_v15 (fun x v => Host.reduceAdd x v reducesTo_S1024x2048_S1024_d1 h_S_),
    binary main_v13 main_v13 main_v16 mulf,
    nullary main_cst_2 (constant S_ .f32 0x00000000#32),
    binary main_v16 main_cst_2 main_v17 (fun x v => Host.reduceAdd x v reducesTo_S1024x2048_S1024_d1 h_S_),
    nullary main_cst_3 (constant S_ .f32 0x00000000#32),
    binary main_v6 main_cst_3 main_v18 (fun x v => Host.reduceAdd x v reducesTo_S1024x2048_S1024_d1 h_S_),
    nullary main_cst_4 (constant S_ .f32 0x00000000#32),
    binary main_v13 main_cst_4 main_v19 (fun x v => Host.reduceAdd x v reducesTo_S1024x2048_S1024_d1 h_S_),
    unary main_v13 main_v20 (transpose S2048x1024 [1, 0] · transposes_S1024x2048_S2048x1024_1_0),
    binary main_v6 main_v20 main_v21 (fun l r => Host.dotGeneral dot_S1024x2048_S2048x1024_S1024x1024_1_0_0_1_n_n none l r),
    unary main_v15 main_v22 (broadcastInDim S1024x1 ![0] bcast_S1024_S1024x1_0),
    unary main_v17 main_v23 (broadcastInDim S1x1024 ![1] bcast_S1024_S1x1024_1),
    unary main_v22 main_v24 (broadcastInDim S1024x1024 ![0, 1] bcast_S1024x1_S1024x1024_0_1),
    unary main_v23 main_v25 (broadcastInDim S1024x1024 ![0, 1] bcast_S1x1024_S1024x1024_0_1),
    binary main_v24 main_v25 main_v26 addf,
    nullary main_cst_5 (constant S_ .f32 0x40000000#32),
    unary main_cst_5 main_v27 (broadcastInDim S1024x1024 ![] bcast_S_S1024x1024),
    binary main_v27 main_v21 main_v28 mulf,
    binary main_v26 main_v28 main_v29 subf,
    unary main_v18 main_v30 (broadcastInDim S1024x1 ![0] bcast_S1024_S1024x1_0),
    unary main_v19 main_v31 (broadcastInDim S1x1024 ![1] bcast_S1024_S1x1024_1),
    unary main_v30 main_v32 (broadcastInDim S1024x1024 ![0, 1] bcast_S1024x1_S1024x1024_0_1),
    unary main_v31 main_v33 (broadcastInDim S1024x1024 ![0, 1] bcast_S1x1024_S1024x1024_0_1),
    binary main_v32 main_v33 main_v34 subf,
    nullary main_cst_6 (constant S_ .f32 0x360637BD#32),
    unary main_cst_6 main_v35 (broadcastInDim S1024x1024 ![] bcast_S_S1024x1024),
    binary main_v35 main_v34 main_v36 mulf,
    binary main_v29 main_v36 main_v37 addf,
    nullary main_cst_7 (constant S_ .f32 0x310CBCCC#32),
    unary main_cst_7 main_v38 (broadcastInDim S1024x1024 ![] bcast_S_S1024x1024),
    binary main_v37 main_v38 main_v39 addf,
    unary main_v39 main_v40 Host.negf ]

/-- The operations computing the masked arg-max. -/
abbrev pickOps : List (HloOp τ sig (Elt F)) :=
  [ nullary main_v41 (iotaInDim S1024x1024 32 0),
    nullary main_v42 (iotaInDim S1024x1024 32 1),
    nullary main_c (constantI S_ 32 0#32),
    unary main_c main_v43 (broadcastInDim S1024x1024 ![] bcast_S_S1024x1024),
    binary main_v41 main_v43 main_v44 addi,
    binary main_v44 main_v42 main_v45 (cmpi .eq),
    nullary main_cst_8 (constant S_ .f32 0xFF800000#32),
    unary main_cst_8 main_call2_v0 id,
    unary main_call2_v0 main_call2_v1 (broadcastInDim S1024x1024 ![] bcast_S_S1024x1024),
    ternary main_v45 main_call2_v1 main_v40 main_v46 select,
    nullary main_call3_v0 (iotaInDim S1024x1024 32 1),
    nullary main_call3_cst (constant S_ .f32 0xFF800000#32),
    nullary main_call3_c (constantI S_ 32 0#32),
    quaternary main_v46 main_call3_v0 main_call3_cst main_call3_c main_call3_v1_0 (fun x y u v j => (Host.argReduce reducer_argmax_f32_i32 x y u v reducesTo_S1024x1024_S1024_d1 h_S_ j).1),
    quaternary main_v46 main_call3_v0 main_call3_cst main_call3_c main_v47 (fun x y u v j => (Host.argReduce reducer_argmax_f32_i32 x y u v reducesTo_S1024x1024_S1024_d1 h_S_ j).2),
    nullary main_c_9 (constantI S_ 32 0#32) ]

/-- The operations computing the rows gathered at the arg-max. -/
abbrev fetchOps : List (HloOp τ sig (Elt F)) :=
  [ unary main_c_9 main_v48 (broadcastInDim S1024 ![] bcast_S_S1024),
    binary main_v47 main_v48 main_v49 (cmpi .slt),
    nullary main_c_10 (constantI S_ 32 1024#32),
    unary main_c_10 main_v50 (broadcastInDim S1024 ![] bcast_S_S1024),
    binary main_v47 main_v50 main_v51 addi,
    ternary main_v49 main_v51 main_v47 main_v52 select,
    unary main_v52 main_v53 (broadcastInDim S1024x1 ![0] bcast_S1024_S1024x1_0),
    binary main_v13 main_v53 main_v54 (fun x i => Host.gather gather_S1024x2048_S1024x1_S1024x2048_1_0_n_n_0_1_12048 x i) ]

/-- The operations computing the hinge loss and its mean. -/
abbrev lossOps : List (HloOp τ sig (Elt F)) :=
  [ binary main_v6 main_v13 main_v55 subf,
    nullary main_cst_11 (constant S_ .f32 0x358637BD#32),
    unary main_cst_11 main_v56 (broadcastInDim S1024x2048 ![] bcast_S_S1024x2048),
    binary main_v55 main_v56 main_v57 addf,
    binary main_v57 main_v57 main_call4_v0 mulf,
    nullary main_call4_cst (constant S_ .f32 0x00000000#32),
    binary main_call4_v0 main_call4_cst main_call4_v1 (fun x v => Host.reduceAdd x v reducesTo_S1024x2048_S1024_d1 h_S_),
    unary main_call4_v1 main_v58 Host.sqrt,
    binary main_v6 main_v54 main_v59 subf,
    nullary main_cst_12 (constant S_ .f32 0x358637BD#32),
    unary main_cst_12 main_v60 (broadcastInDim S1024x2048 ![] bcast_S_S1024x2048),
    binary main_v59 main_v60 main_v61 addf,
    binary main_v61 main_v61 main_call5_v0 mulf,
    nullary main_call5_cst (constant S_ .f32 0x00000000#32),
    binary main_call5_v0 main_call5_cst main_call5_v1 (fun x v => Host.reduceAdd x v reducesTo_S1024x2048_S1024_d1 h_S_),
    unary main_call5_v1 main_v62 Host.sqrt,
    binary main_v58 main_v58 main_v63 mulf,
    binary main_v62 main_v62 main_v64 mulf,
    binary main_v63 main_v64 main_v65 subf,
    nullary main_cst_13 (constant S_ .f32 0x3E99999A#32),
    unary main_cst_13 main_v66 (broadcastInDim S1024 ![] bcast_S_S1024),
    binary main_v65 main_v66 main_v67 addf,
    nullary main_call6_cst (constant S_ .f32 0x00000000#32),
    unary main_call6_cst main_call6_v0 (broadcastInDim S1024 ![] bcast_S_S1024),
    binary main_v67 main_call6_v0 main_v68 maximumf,
    nullary main_cst_14 (constant S_ .f32 0x00000000#32),
    binary main_v68 main_cst_14 main_v69 (fun x v => Host.reduceAdd x v reducesTo_S1024_S_d0 h_S_),
    nullary main_cst_15 (constant S_ .f32 0x44800000#32),
    binary main_v69 main_cst_15 main_v70 Host.divf ]

/-- @main's operations, in order. -/
abbrev ops : List (HloOp τ sig (Elt F)) :=
  normAOps ++ (normPOps ++ (distOps ++ (pickOps ++ (fetchOps ++ lossOps))))

/-- These operations touch the buffers of the TensorCore only. -/
theorem normA_sub : (normAOps : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- These operations touch the buffers of the TensorCore only. -/
theorem normP_sub : (normPOps : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- These operations touch the buffers of the TensorCore only. -/
theorem dist_sub : (distOps : List (HloOp τ sig (Elt F))).Forall fun op => op.bufs ⊆ tcRefs τ sig :=
  ⟨binary_bufs_sub .., nullary_bufs_sub .., binary_bufs_sub .., binary_bufs_sub .., nullary_bufs_sub .., binary_bufs_sub .., nullary_bufs_sub .., binary_bufs_sub .., nullary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

/-- These operations touch the buffers of the TensorCore only. -/
theorem pick_sub : (pickOps : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., nullary_bufs_sub ..⟩

/-- These operations touch the buffers of the TensorCore only. -/
theorem fetch_sub : (fetchOps : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub ..⟩

/-- These operations touch the buffers of the TensorCore only. -/
theorem loss_sub : (lossOps : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., unary_bufs_sub .., binary_bufs_sub .., nullary_bufs_sub .., unary_bufs_sub .., binary_bufs_sub .., binary_bufs_sub .., nullary_bufs_sub .., binary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

/-! ## Each stretch read back -/

/-- What the stretch leaves at `main_v6`. -/
theorem normA_v6 (V : Valuation τ sig (Elt F)) :
    after normAOps V (main_v6 : DevRef τ sig) = normalized (anchorRows (V (main_arg0 : DevRef τ sig))) := by
  after_results
  rfl

/-- What the stretch leaves at `main_arg0`. -/
theorem normA_arg0 (V : Valuation τ sig (Elt F)) :
    after normAOps V (main_arg0 : DevRef τ sig) = V (main_arg0 : DevRef τ sig) := by
  after_results

/-- What the stretch leaves at `main_arg1`. -/
theorem normA_arg1 (V : Valuation τ sig (Elt F)) :
    after normAOps V (main_arg1 : DevRef τ sig) = V (main_arg1 : DevRef τ sig) := by
  after_results

/-- What the stretch leaves at `main_v13`. -/
theorem normP_v13 (V : Valuation τ sig (Elt F)) :
    after normPOps V (main_v13 : DevRef τ sig) = normalized (positiveRows (V (main_arg1 : DevRef τ sig))) := by
  after_results
  rfl

/-- What the stretch leaves at `main_v6`. -/
theorem normP_v6 (V : Valuation τ sig (Elt F)) :
    after normPOps V (main_v6 : DevRef τ sig) = V (main_v6 : DevRef τ sig) := by
  after_results

/-- What the stretch leaves at `main_arg0`. -/
theorem normP_arg0 (V : Valuation τ sig (Elt F)) :
    after normPOps V (main_arg0 : DevRef τ sig) = V (main_arg0 : DevRef τ sig) := by
  after_results

/-- What the stretch leaves at `main_arg1`. -/
theorem normP_arg1 (V : Valuation τ sig (Elt F)) :
    after normPOps V (main_arg1 : DevRef τ sig) = V (main_arg1 : DevRef τ sig) := by
  after_results

/-- What the stretch leaves at `main_v40`. -/
theorem dist_v40 (V : Valuation τ sig (Elt F)) :
    after distOps V (main_v40 : DevRef τ sig) = similarity (V (main_v6 : DevRef τ sig)) (V (main_v13 : DevRef τ sig)) := by
  after_results
  rfl

/-- What the stretch leaves at `main_v6`. -/
theorem dist_v6 (V : Valuation τ sig (Elt F)) :
    after distOps V (main_v6 : DevRef τ sig) = V (main_v6 : DevRef τ sig) := by
  after_results

/-- What the stretch leaves at `main_v13`. -/
theorem dist_v13 (V : Valuation τ sig (Elt F)) :
    after distOps V (main_v13 : DevRef τ sig) = V (main_v13 : DevRef τ sig) := by
  after_results

/-- What the stretch leaves at `main_arg0`. -/
theorem dist_arg0 (V : Valuation τ sig (Elt F)) :
    after distOps V (main_arg0 : DevRef τ sig) = V (main_arg0 : DevRef τ sig) := by
  after_results

/-- What the stretch leaves at `main_arg1`. -/
theorem dist_arg1 (V : Valuation τ sig (Elt F)) :
    after distOps V (main_arg1 : DevRef τ sig) = V (main_arg1 : DevRef τ sig) := by
  after_results

/-- What the stretch leaves at `main_v47`. -/
theorem pick_v47 (V : Valuation τ sig (Elt F)) :
    after pickOps V (main_v47 : DevRef τ sig) = argmaxRow (masked (V (main_v40 : DevRef τ sig))) := by
  after_results
  rfl

/-- What the stretch leaves at `main_c_9`. -/
theorem pick_c_9 (V : Valuation τ sig (Elt F)) :
    after pickOps V (main_c_9 : DevRef τ sig) = constantI S_ 32 0#32 := by
  after_results

/-- What the stretch leaves at `main_v6`. -/
theorem pick_v6 (V : Valuation τ sig (Elt F)) :
    after pickOps V (main_v6 : DevRef τ sig) = V (main_v6 : DevRef τ sig) := by
  after_results

/-- What the stretch leaves at `main_v13`. -/
theorem pick_v13 (V : Valuation τ sig (Elt F)) :
    after pickOps V (main_v13 : DevRef τ sig) = V (main_v13 : DevRef τ sig) := by
  after_results

/-- What the stretch leaves at `main_arg0`. -/
theorem pick_arg0 (V : Valuation τ sig (Elt F)) :
    after pickOps V (main_arg0 : DevRef τ sig) = V (main_arg0 : DevRef τ sig) := by
  after_results

/-- What the stretch leaves at `main_arg1`. -/
theorem pick_arg1 (V : Valuation τ sig (Elt F)) :
    after pickOps V (main_arg1 : DevRef τ sig) = V (main_arg1 : DevRef τ sig) := by
  after_results

/-- What the stretch leaves at `main_v54`, from the zero it starts with. -/
theorem fetch_v54 (V : Valuation τ sig (Elt F)) (h9 : V (main_c_9 : DevRef τ sig) = constantI S_ 32 0#32) :
    after fetchOps V (main_v54 : DevRef τ sig) = fetched (V (main_v13 : DevRef τ sig)) (V (main_v47 : DevRef τ sig)) := by
  after_results
  rw [h9]
  rfl

/-- What the stretch leaves at `main_v6`. -/
theorem fetch_v6 (V : Valuation τ sig (Elt F)) :
    after fetchOps V (main_v6 : DevRef τ sig) = V (main_v6 : DevRef τ sig) := by
  after_results

/-- What the stretch leaves at `main_v13`. -/
theorem fetch_v13 (V : Valuation τ sig (Elt F)) :
    after fetchOps V (main_v13 : DevRef τ sig) = V (main_v13 : DevRef τ sig) := by
  after_results

/-- What the stretch leaves at `main_arg0`. -/
theorem fetch_arg0 (V : Valuation τ sig (Elt F)) :
    after fetchOps V (main_arg0 : DevRef τ sig) = V (main_arg0 : DevRef τ sig) := by
  after_results

/-- What the stretch leaves at `main_arg1`. -/
theorem fetch_arg1 (V : Valuation τ sig (Elt F)) :
    after fetchOps V (main_arg1 : DevRef τ sig) = V (main_arg1 : DevRef τ sig) := by
  after_results

/-- What the stretch leaves at `main_v70`. -/
theorem loss_v70 (V : Valuation τ sig (Elt F)) :
    after lossOps V (main_v70 : DevRef τ sig) = meanHinge (distance (V (main_v6 : DevRef τ sig)) (V (main_v13 : DevRef τ sig))) (distance (V (main_v6 : DevRef τ sig)) (V (main_v54 : DevRef τ sig))) := by
  after_results
  rfl

/-- What the stretch leaves at `main_arg0`. -/
theorem loss_arg0 (V : Valuation τ sig (Elt F)) :
    after lossOps V (main_arg0 : DevRef τ sig) = V (main_arg0 : DevRef τ sig) := by
  after_results

/-- What the stretch leaves at `main_arg1`. -/
theorem loss_arg1 (V : Valuation τ sig (Elt F)) :
    after lossOps V (main_arg1 : DevRef τ sig) = V (main_arg1 : DevRef τ sig) := by
  after_results

/-- Nothing is scoped on this signature: no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

set_option maxHeartbeats 8000000 in
/-- @main is the straight line of these operations. -/
theorem main_eq (c : Dev nD) : main (F := F) c = seq ops := rfl

/-- Every operation touches the buffers of the TensorCore only. -/
theorem ops_sub : (ops : List (HloOp τ sig (Elt F))).Forall fun op => op.bufs ⊆ tcRefs τ sig :=
  List.forall_append.mpr ⟨normA_sub, List.forall_append.mpr ⟨normP_sub, List.forall_append.mpr ⟨dist_sub,
    List.forall_append.mpr ⟨pick_sub, List.forall_append.mpr ⟨fetch_sub, loss_sub⟩⟩⟩⟩⟩

/-- The whole line at the result. -/
theorem result_eq (V : Valuation τ sig (Elt F)) :
    after ops V (main_v70 : DevRef τ sig)
      = loss (normalized (anchorRows (V (main_arg0 : DevRef τ sig)))) (normalized (positiveRows (V (main_arg1 : DevRef τ sig)))) := by
  simp only [ops, after_append]
  rw [loss_v70, fetch_v6, fetch_v13, fetch_v54 _ (pick_c_9 _), pick_v6, pick_v13, pick_v47, dist_v6, dist_v13, dist_v40,
    normP_v6, normP_v13, normA_v6, normA_arg1]
  rfl

/-- The whole line leaves the first argument as it was. -/
theorem result_arg0 (V : Valuation τ sig (Elt F)) :
    after ops V (main_arg0 : DevRef τ sig) = V (main_arg0 : DevRef τ sig) := by
  simp only [ops, after_append]
  rw [loss_arg0, fetch_arg0, pick_arg0, dist_arg0, normP_arg0, normA_arg0]

/-- And the second. -/
theorem result_arg1 (V : Valuation τ sig (Elt F)) :
    after ops V (main_arg1 : DevRef τ sig) = V (main_arg1 : DevRef τ sig) := by
  simp only [ops, after_append]
  rw [loss_arg1, fetch_arg1, pick_arg1, dist_arg1, normP_arg1, normA_arg1]

/-- No operation leaves a result undetermined. -/
theorem ops_fresh : ∀ op ∈ (ops : List (HloOp τ sig (Elt F))), op.fresh = ∅ := by
  intro _ h; (repeat (cases h with | head => rfl | tail _ h => ?_)); exact nomatch h

/-- Every execution of the reference ends with the result at the loss of the launched arguments, which are unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v70)
          = loss (normalized (anchorRows (m ((c.tc : Thread nD τ).loc main_arg0)))) (normalized (positiveRows (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v70).trans (result_eq _), (h c main_arg0).trans (result_arg0 _),
      (h c main_arg1).trans (result_arg1 _)⟩)
    (run_seq scopedRefs_eq scopedSems_eq defs main (fun _ => ops) main_eq (fun _ => ops_sub) m ρ (fun _ => ops_fresh))

/-- The frame claim of the reference: the arguments unchanged, and no counter to move. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems rfl r.2⟩) (run_main m ρ)

end Cert.ReferenceIdeal.Hand

end
-- ==== Proof.Pick.lean ====
module

public import proofs.«01_k».proof.Proof.Ref
public import proofs.«01_k».proof.Proof.Math
public import Idealize.ShloMosaic.Lib.Pointwise

/-! The masked arg-max: the column it names is another row, and none of the others has a larger entry. -/

@[expose] public section

set_option maxRecDepth 16384

noncomputable section

namespace Cert.ReferenceIdeal.Hand

open Cert.ReferenceIdeal Cert.ReferenceIdeal.Gen
open Idealize.ShloMosaic

/-- The body of the arg-max keeps one of its two pairs, and that one's value is not the smaller. -/
theorem body_keeps (a b : EReal × BitVec 32) :
    (reducer_argmax_f32_i32 (F := Ideal) a b = a ∨ reducer_argmax_f32_i32 (F := Ideal) a b = b)
    ∧ a.1 ≤ (reducer_argmax_f32_i32 (F := Ideal) a b).1 ∧ b.1 ≤ (reducer_argmax_f32_i32 (F := Ideal) a b).1 := by
  obtain ⟨x, i⟩ := a
  obtain ⟨y, k⟩ := b
  rcases lt_trichotomy x y with h | h | h
  · have e : reducer_argmax_f32_i32 (F := Ideal) (x, i) (y, k) = (y, k) := by
      simp [reducer_argmax_f32_i32, Ideal.cmpf_def, Ideal.cmp, h.le, h.ne, not_lt.mpr h.le, IntOp.ori, IntOp.andi, Scalar.select]
    rw [e]; exact ⟨.inr rfl, h.le, le_rfl⟩
  · subst h
    have e : (reducer_argmax_f32_i32 (F := Ideal) (x, i) (x, k)).1 = x := by
      simp [reducer_argmax_f32_i32, Ideal.cmpf_def, Ideal.cmp, IntOp.ori, IntOp.andi, Scalar.select]
    refine ⟨?_, e.ge, e.ge⟩
    have e2 : (reducer_argmax_f32_i32 (F := Ideal) (x, i) (x, k)).2 = i ∨ (reducer_argmax_f32_i32 (F := Ideal) (x, i) (x, k)).2 = k := by
      show Scalar.select _ i k = i ∨ Scalar.select _ i k = k
      unfold Scalar.select; split
      · exact .inl rfl
      · exact .inr rfl
    exact e2.imp (fun h => Prod.ext e h) (fun h => Prod.ext e h)
  · have e : reducer_argmax_f32_i32 (F := Ideal) (x, i) (y, k) = (x, i) := by
      simp [reducer_argmax_f32_i32, Ideal.cmpf_def, Ideal.cmp, h, h.ne', IntOp.ori, IntOp.andi, Scalar.select]
    rw [e]; exact ⟨.inl rfl, le_rfl, h.le⟩

/-- A fold of such a body ends at its start or at a member of the list, and at a value that none of them exceeds. -/
theorem fold_keeps {β : Type} (f : EReal × β → EReal × β → EReal × β)
    (hf : ∀ a b, (f a b = a ∨ f a b = b) ∧ a.1 ≤ (f a b).1 ∧ b.1 ≤ (f a b).1) (l : List (EReal × β)) :
    ∀ a, (l.foldl f a = a ∨ l.foldl f a ∈ l) ∧ a.1 ≤ (l.foldl f a).1 ∧ ∀ p ∈ l, p.1 ≤ (l.foldl f a).1 := by
  induction l with
  | nil => exact fun a => ⟨.inl rfl, le_rfl, fun p h => absurd h List.not_mem_nil⟩
  | cons b l ih =>
    intro a
    obtain ⟨h1, h2, h3⟩ := ih (f a b)
    obtain ⟨g1, g2, g3⟩ := hf a b
    rw [List.foldl_cons]
    refine ⟨?_, g2.trans h2, fun p hp => ?_⟩
    · rcases h1 with h1 | h1
      · rw [h1]; exact g1.imp id fun e => by rw [e]; exact List.mem_cons_self
      · exact .inr (List.mem_cons_of_mem _ h1)
    · rcases List.mem_cons.mp hp with rfl | hp
      · exact g3.trans h2
      · exact h3 p hp

/-- The entries that reduce to row `i` are those of row `i`. -/
theorem drop_iff (i : Fin 1024) (y : S1024x1024.Idx) : reducesTo_S1024x1024_S1024_d1.drop y = ix1 (n0 := 1024) i ↔ y 0 = i := by
  have hv : (reducesTo_S1024x1024_S1024_d1.drop y 0).val = (y 0).val :=
    Shape.ReducesTo.drop_apply_val_of_eq _ y 0 0
  constructor
  · intro h
    rw [h] at hv
    exact Fin.ext hv.symm
  · intro h
    funext b
    match b with
    | ⟨0, _⟩ => exact Fin.ext (hv.trans (congrArg Fin.val h))

/-- The pairs that the arg-max of row `i` folds over. -/
abbrev rowPairs (s : FVec Ideal S1024x1024 .f32) (i : Fin 1024) : List (EReal × BitVec 32) :=
  Host.argReduceFiber (α := EReal) s (iotaInDim S1024x1024 32 1) reducesTo_S1024x1024_S1024_d1 (ix1 (n0 := 1024) i)

/-- They are the row's entries, each with its column. -/
theorem mem_rowPairs (s : FVec Ideal S1024x1024 .f32) (i : Fin 1024) (p : EReal × BitVec 32) :
    p ∈ rowPairs s i ↔ ∃ j : Fin 1024, p = (s (ix2 (n0 := 1024) (n1 := 1024) i j), BitVec.ofNat 32 j.val) := by
  have hy1 : ∀ y : S1024x1024.Idx, iotaInDim S1024x1024 32 1 y = BitVec.ofNat 32 (y 1).val := fun y => rfl
  unfold rowPairs Host.argReduceFiber
  simp only [List.mem_map, List.mem_filter, List.mem_finRange, true_and, decide_eq_true_eq, drop_iff, hy1]
  generalize S1024x1024.rowMajor = e
  constructor
  · rintro ⟨n, hn, rfl⟩
    generalize e.symm n = y at hn ⊢
    refine ⟨y 1, ?_⟩
    have hy : y = ix2 (n0 := 1024) (n1 := 1024) i (y 1) := by rw [← hn]; exact eq_ix2 (n0 := 1024) (n1 := 1024) y
    exact Prod.ext (congrArg s hy) rfl
  · rintro ⟨j, rfl⟩
    refine ⟨e (ix2 (n0 := 1024) (n1 := 1024) i j), ?_, ?_⟩
    · rw [Equiv.symm_apply_apply]; rfl
    · rw [Equiv.symm_apply_apply]; rfl

/-- An arg-max over the extended reals is the fold over its pairs, whatever the shapes. -/
theorem argReduce_fold {s t u : Shape} {axes : List (Fin s.rank)} (f : EReal × BitVec 32 → EReal × BitVec 32 → EReal × BitVec 32)
    (x : FVec Ideal s .f32) (y : s.Idx → BitVec 32) (v : u.Idx → Ideal .f32) (w : u.Idx → BitVec 32) (h : s.ReducesTo axes t)
    (hu : 0 < u.numel) (j : t.Idx) (a : EReal) (k : BitVec 32) (hv : v (Shape.Idx.first hu) = a) (hw : w (Shape.Idx.first hu) = k) :
    Host.argReduce (F := Ideal) (φ := .f32) f x y v w h hu j = (Host.argReduceFiber (α := EReal) x y h j).foldl f (a, k) := by
  rw [Ideal.argReduce_eq_reduce2, Host.reduce2_eq_foldl_fiber, hv, hw]

/-- Equal pairs have equal columns. -/
theorem column_eq {z : Ideal .f32 × BitVec 32} {r : EReal × BitVec 32} (h : z = r) : z.2 = r.2 := congrArg Prod.snd h

/-- The arg-max of row `i` is the fold over its pairs. -/
theorem argmaxRow_eq (s : FVec Ideal S1024x1024 .f32) (i : Fin 1024) :
    argmaxRow (F := Ideal) s (ix1 i) = ((rowPairs s i).foldl (reducer_argmax_f32_i32 (F := Ideal)) ((⊥ : EReal), 0#32)).2 := by
  have e : argmaxRow (F := Ideal) s = fun j => (Host.argReduce reducer_argmax_f32_i32 s (iotaInDim S1024x1024 32 1)
      (constant S_ .f32 0xFF800000#32) (constantI S_ 32 0#32) reducesTo_S1024x1024_S1024_d1 h_S_ j).2 := rfl
  exact (congrFun e (ix1 (n0 := 1024) i)).trans (column_eq (argReduce_fold (reducer_argmax_f32_i32 (F := Ideal)) s
    (iotaInDim S1024x1024 32 1) (constant S_ .f32 0xFF800000#32) (constantI S_ 32 0#32) reducesTo_S1024x1024_S1024_d1 h_S_
    (ix1 (n0 := 1024) i) ⊥ 0#32 Cert.Triplet.word_bot rfl))

/-- A row's arg-max, where the row has an entry above the least value: the column of an entry above it that no other exceeds. -/
theorem argmaxRow_at (s : FVec Ideal S1024x1024 .f32) (i : Fin 1024) (hs : ∃ j, (⊥ : EReal) < s (ix2 (n0 := 1024) (n1 := 1024) i j)) :
    ∃ j : Fin 1024, argmaxRow (F := Ideal) s (ix1 i) = BitVec.ofNat 32 j.val ∧ (⊥ : EReal) < s (ix2 (n0 := 1024) (n1 := 1024) i j)
      ∧ ∀ k, (s (ix2 (n0 := 1024) (n1 := 1024) i k) : EReal) ≤ s (ix2 (n0 := 1024) (n1 := 1024) i j) := by
  obtain ⟨h1, h2, h3⟩ := fold_keeps _ body_keeps (rowPairs s i) ((⊥ : EReal), 0#32)
  rw [argmaxRow_eq]
  have hm := mem_rowPairs s i
  generalize rowPairs s i = l at h1 h2 h3 hm ⊢
  generalize List.foldl _ _ _ = r at h1 h2 h3 ⊢
  obtain ⟨j0, hj0⟩ := hs
  have hpos : (⊥ : EReal) < r.1 := hj0.trans_le (h3 _ ((hm _).mpr ⟨j0, rfl⟩))
  rcases h1 with h1 | h1
  · rw [h1] at hpos; exact absurd hpos (lt_irrefl _)
  · obtain ⟨j, rfl⟩ := (hm _).mp h1
    exact ⟨j, rfl, hpos, fun k => h3 _ ((hm _).mpr ⟨k, rfl⟩)⟩

end Cert.ReferenceIdeal.Hand

end
-- ==== Proof.RefMath.lean ====
module

public import proofs.«01_k».proof.Proof.Pick
public import Idealize.ShloMosaic.Lib.Routing.Ops
public import Idealize.ShloMosaic.Lib.Pointwise.IndexBridge

/-! The reference's result over the extended reals: the mean hinge of the rows over their norms. -/

@[expose] public section

set_option maxRecDepth 16384

noncomputable section

namespace Cert.ReferenceIdeal.Hand

open Cert.ReferenceIdeal Cert.ReferenceIdeal.Gen Cert.Triplet
open Idealize.ShloMosaic

/-- The anchors over their norms. -/
theorem anchors_at (X : FVec Ideal S1024x2x2048 .f32) (j : Fin 1024) (k : Fin 2048) :
    normalized (F := Ideal) (anchorRows X) (ix2 (n0 := 1024) (n1 := 2048) j k) = (units X 0 j k : EReal) := by
  pointwise [normalized, rowSum, anchorRows]
  rw [word_floor]
  exact (unit_facts _).1 k

/-- The positives over their norms. -/
theorem positives_at (X : FVec Ideal S1024x2x2048 .f32) (j : Fin 1024) (k : Fin 2048) :
    normalized (F := Ideal) (positiveRows X) (ix2 (n0 := 1024) (n1 := 2048) j k) = (units X 1 j k : EReal) := by
  pointwise [normalized, rowSum, positiveRows]
  rw [word_floor]
  exact (unit_facts _).1 k

section Rows

variable (a p : FVec Ideal S1024x2048 .f32) (A P : Fin 1024 → Fin 2048 → ℝ)
  (ha : ∀ i k, a (ix2 (n0 := 1024) (n1 := 2048) i k) = (A i k : EReal))
  (hp : ∀ i k, p (ix2 (n0 := 1024) (n1 := 2048) i k) = (P i k : EReal))

include ha hp

/-- The masked similarities: on the diagonal the least value, elsewhere the negated cost less the anchor's part. -/
theorem masked_at (w : ℝ) (hw : Ideal.ofBits .f32 0x310CBCCC#32 = (w : EReal)) (i j : Fin 1024) :
    masked (F := Ideal) (similarity a p) (ix2 (n0 := 1024) (n1 := 1024) i j)
      = if i = j then (⊥ : EReal) else ((-(anchorPart (A i) w + cost (A i) (P j)) : ℝ) : EReal) := by
  pointwise [masked, similarity, rowSum, downRows, alongCols, square]
  simp only [ha, hp]
  rw [hw, word_bot, word_two, word_twice_shift, similarity_eq]
  have h0 : IntOp.addi (BitVec.ofNat 32 i.val) 0#32 = BitVec.ofNat 32 i.val := BitVec.add_zero _
  rw [h0]
  exact select_diag (n := 1024) (by norm_num) i j _ _

/-- The arg-max of a row names another positive, and none of the others costs less. -/
theorem pick_at (i : Fin 1024) :
    ∃ j : Fin 1024, argmaxRow (F := Ideal) (masked (similarity a p)) (ix1 i) = BitVec.ofNat 32 j.val ∧ j ≠ i
      ∧ ∀ k, k ≠ i → cost (A i) (P j) ≤ cost (A i) (P k) := by
  obtain ⟨w, hw⟩ := word_common
  have hm := masked_at a p A P ha hp w hw i
  obtain ⟨j, hj, hpos, hle⟩ := argmaxRow_at (masked (F := Ideal) (similarity a p)) i
    ⟨i + 1, by rw [hm, if_neg (by simp)]; exact EReal.bot_lt_coe _⟩
  have hji : j ≠ i := fun e => by
    rw [hm, if_pos e.symm] at hpos; exact lt_irrefl _ hpos
  refine ⟨j, hj, hji, fun k hk => ?_⟩
  have h := hle k
  rw [hm, hm, if_neg (Ne.symm hk), if_neg (Ne.symm hji), EReal.coe_le_coe_iff] at h
  linarith

/-- The distances of the anchors from their own positives, or from whatever rows stand there. -/
theorem distance_at (i : Fin 1024) :
    distance (F := Ideal) a p (ix1 i) = ((Real.sqrt (sqDist (A i) (P i)) : ℝ) : EReal) := by
  pointwise [distance, rowSum]
  simp only [ha, hp]
  rw [word_shift]
  exact distance_eq _ _

end Rows

/-- A row number is not negative, so that it is not counted from the end. -/
theorem wrapped_at (k : IVec S1024 32) (i j : Fin 1024) (h : k (ix1 (n0 := 1024) i) = BitVec.ofNat 32 j.val) :
    wrapped k (ix1 (n0 := 1024) i) = BitVec.ofNat 32 j.val := by
  pointwise [wrapped]
  rw [h]
  have hj : (BitVec.ofNat 32 j.val).slt 0#32 = false := by
    have h1 := j.isLt
    rw [BitVec.slt_eq_decide, decide_eq_false_iff_not, BitVec.toInt_ofNat']
    simp [Int.bmod]
    omega
  simp [Scalar.select, IntOp.cmpi, hj]

/-- The gathered rows are the rows that the indices name. -/
theorem fetched_at (p : FVec Ideal S1024x2048 .f32) (k : IVec S1024 32) (i j : Fin 1024) (h : k (ix1 (n0 := 1024) i) = BitVec.ofNat 32 j.val)
    (l : Fin 2048) : fetched p k (ix2 (n0 := 1024) (n1 := 2048) i l) = p (ix2 (n0 := 1024) (n1 := 2048) j l) := by
  have hb : broadcastInDim S1024x1 ![0] bcast_S1024_S1024x1_0 (wrapped k) (ix2 (n0 := 1024) (n1 := 1) i 0) = BitVec.ofNat 32 j.val := by
    pointwise []
    exact wrapped_at k i j h
  rw [ix2_eq_valueIdx] at hb
  rw [ix2_eq_valueIdx, ix2_eq_valueIdx]
  exact Routing.gather_row gather_S1024x2048_S1024x1_S1024x2048_1_0_n_n_0_1_12048 rfl rfl rfl rfl rfl p _ i l j hb (by norm_num)

/-- The reference's loss of two arrays of pairs is the mean hinge of their rows over their norms. -/
theorem loss_at (X Y : FVec Ideal S1024x2x2048 .f32) :
    loss (F := Ideal) (normalized (anchorRows X)) (normalized (positiveRows Y)) ix0
      = ((lossOf (units X 0) (units Y 1) : ℝ) : EReal) := by
  have ha := anchors_at X
  have hp := positives_at Y
  unfold loss
  generalize normalized (anchorRows X) = a at ha ⊢
  generalize normalized (positiveRows Y) = p at hp ⊢
  choose J hJ hne hle using pick_at a p (units X 0) (units Y 1) ha hp
  have hd := distance_at a p (units X 0) (units Y 1) ha hp
  have he := distance_at a (fetched p (argmaxRow (masked (similarity a p)))) (units X 0) (fun i => units Y 1 (J i)) ha
    fun i l => (fetched_at p _ i (J i) (hJ i) l).trans (hp _ _)
  generalize fetched p (argmaxRow (masked (similarity a p))) = q at he ⊢
  generalize distance (F := Ideal) a p = d at hd ⊢
  generalize distance (F := Ideal) a q = e at he ⊢
  pointwise [meanHinge]
  simp only [hd, he]
  rw [word_margin, word_count, Ideal.div_coe (by norm_num : (1024 : ℝ) ≠ 0)]
  unfold lossOf
  rw [EReal.coe_mul, coe_sum]
  exact congrArg (· * _) (Finset.sum_congr rfl fun i _ => hinge_eq (units X 0) (units Y 1) (hne i) (hle i))

end Cert.ReferenceIdeal.Hand

end
-- ==== Proof.lean ====
/-
  The claim, assembled from the runs of the three programs.
-/
module

public import proofs.«01_k».proof.Defs
public import proofs.«01_k».proof.Proof.Gen.Kernel
public import proofs.«01_k».proof.Proof.KernelSum
public import proofs.«01_k».proof.Proof.Same
public import proofs.«01_k».proof.Proof.RefMath

@[expose] public section

noncomputable section

namespace Cert.Proof

open Idealize.ShloMosaic Idealize.ShloMosaic.TcCoe Idealize.SL.Sem

/-- The mean hinge that both programs end with, a function of the two argument arrays. -/
def meanLoss (X Y : (⟨3, ![1024, 2, 2048]⟩ : Shape).Idx → EReal) : Ideal .f32 :=
  ((Cert.Triplet.lossOf (Cert.Triplet.units X 0) (Cert.Triplet.units Y 1) : ℝ) : EReal)

/-- The idealized kernel's result and the reference's are the same extended real. -/
theorem results_agree :
    Cert.algebraic_KernelIdeal_ReferenceIdeal (hKernelIdeal := Cert.KernelIdeal.Gen.facts) (hReferenceIdeal := Cert.ReferenceIdeal.Gen.facts) := by
  intro m ρ m' ρ' _ hag
  refine ⟨fun c _ => meanLoss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run _ _ _).mono (fun r h c => ⟨(h c).1.trans (funext fun _ => ?_), (h c).2⟩) (Cert.KernelIdeal.Hand.run_value m ρ)
    exact Cert.KernelIdeal.Hand.sumAt_last m c
  · refine (θ_run _ _ _).mono (fun r h c => ⟨(h c).1.trans (funext fun i => ?_), (h c).2⟩) (Cert.ReferenceIdeal.Hand.run_main m' ρ')
    rw [(hag c).1, (hag c).2, Subsingleton.elim i ix0]
    exact Cert.ReferenceIdeal.Hand.loss_at _ _

/-- The claim: the three frames, the idealisation, and the two results' agreement. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Hand.frame m ρ, trivial, results_agree⟩

end Cert.Proof

end
